-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S4240x1024 : Shape := ⟨2, ![4240, 1024]⟩
abbrev S2176x1x4 : Shape := ⟨3, ![2176, 1, 4]⟩
abbrev S2176 : Shape := ⟨1, ![2176]⟩
abbrev S16 : Shape := ⟨1, ![16]⟩
abbrev S2048 : Shape := ⟨1, ![2048]⟩
abbrev S1024x2048 : Shape := ⟨2, ![1024, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S4240x1024 : S_.BroadcastsInDim S4240x1024 (![] : Fin 0 → Fin S4240x1024.rank)
  reducesTo_S4240x1024_S_d0_1 : S4240x1024.ReducesTo [0, 1] S_
  bcast_S_S2176x1x4 : S_.BroadcastsInDim S2176x1x4 (![] : Fin 0 → Fin S2176x1x4.rank)
  reducesTo_S2176x1x4_S_d0_1_2 : S2176x1x4.ReducesTo [0, 1, 2] S_
  bcast_S_S2176 : S_.BroadcastsInDim S2176 (![] : Fin 0 → Fin S2176.rank)
  reducesTo_S2176_S_d0 : S2176.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S16 .f32) (main_v13 : IVec S_ 1) (main_v16 : IVec S2176 1) : IVec S_ 1 :=
  let main_c_5 : IVec S_ 1 := constantI S_ 1 1#1
  let main_v17 : IVec S_ 1 := (fun x v => Host.reduce IntOp.andi x v reducesTo_S2176_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S2x2048x1024 .f32) (main_arg1 : FVec F S4240x1024 .f32) (main_arg2 : FVec F S2176x1x4 .f32) (main_arg3 : FVec F S2176 .f32) (main_arg4 : FVec F S16 .f32) (main_arg5 : FVec F S16 .f32) (main_arg6 : FVec F S16 .f32) (main_arg7 : FVec F S2048 .f32) (main_arg8 : FVec F S1024x2048 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S4240x1024 .f32 := Host.absf main_arg1
  let main_cst_0 : FVec F S_ .f32 := constant S_ .f32 0x7F800000#32
  let main_v5 : FVec F S4240x1024 .f32 := broadcastInDim S4240x1024 ![] bcast_S_S4240x1024 main_cst_0
  let main_v6 : IVec S4240x1024 1 := cmpf .olt main_v4 main_v5
  let main_c_1 : IVec S_ 1 := constantI S_ 1 1#1
  let main_v7 : IVec S_ 1 := (fun x v => Host.reduce IntOp.andi x v reducesTo_S4240x1024_S_d0_1 h_S_) main_v6 main_c_1
  let main_v8 : IVec S_ 1 := andi main_v3 main_v7
  let main_v9 : FVec F S2176x1x4 .f32 := Host.absf main_arg2
  let main_cst_2 : FVec F S_ .f32 := constant S_ .f32 0x7F800000#32
  let main_v10 : FVec F S2176x1x4 .f32 := broadcastInDim S2176x1x4 ![] bcast_S_S2176x1x4 main_cst_2
  let main_v11 : IVec S2176x1x4 1 := cmpf .olt main_v9 main_v10
  let main_c_3 : IVec S_ 1 := constantI S_ 1 1#1
  let main_v12 : IVec S_ 1 := (fun x v => Host.reduce IntOp.andi x v reducesTo_S2176x1x4_S_d0_1_2 h_S_) main_v11 main_c_3
  let main_v13 : IVec S_ 1 := andi main_v8 main_v12
  let main_v14 : FVec F S2176 .f32 := Host.absf main_arg3
  let main_cst_4 : FVec F S_ .f32 := constant S_ .f32 0x7F800000#32
  let main_v15 : FVec F S2176 .f32 := broadcastInDim S2176 ![] bcast_S_S2176 main_cst_4
  let main_v16 : IVec S2176 1 := cmpf .olt main_v14 main_v15
  fn_part1 (F := F) main_arg4 main_arg5 main_v13 main_v16
-- ==== Kernel.lean ====
abbrev S2x2048x1024 : Shape := ⟨3, ![2, 2048, 1024]⟩
abbrev S4240x1024 : Shape := ⟨2, ![4240, 1024]⟩
abbrev S2176x1x4 : Shape := ⟨3, ![2176, 1, 4]⟩
abbrev S2176 : Shape := ⟨1, ![2176]⟩
abbrev S16 : Shape := ⟨1, ![16]⟩
abbrev S2048 : Shape := ⟨1, ![2048]⟩
abbrev S1024x2048 : Shape := ⟨2, ![1024, 2048]⟩
abbrev S2176x4 : Shape := ⟨2, ![2176, 4]⟩
abbrev S4x2176 : Shape := ⟨2, ![4, 2176]⟩
abbrev S1x2176 : Shape := ⟨2, ![1, 2176]⟩
abbrev S1x16 : Shape := ⟨2, ![1, 16]⟩
abbrev S16x1 : Shape := ⟨2, ![16, 1]⟩
abbrev S16x128 : Shape := ⟨2, ![16, 128]⟩
abbrev S1x2048 : Shape := ⟨2, ![1, 2048]⟩
abbrev S1x256x1024 : Shape := ⟨3, ![1, 256, 1024]⟩
abbrev S264x2176 : Shape := ⟨2, ![264, 2176]⟩
abbrev S16x64x128 : Shape := ⟨3, ![16, 64, 128]⟩
abbrev S4224x1024 : Shape := ⟨2, ![4224, 1024]⟩
abbrev S3x2176 : Shape := ⟨2, ![3, 2176]⟩
abbrev S528x1024 : Shape := ⟨2, ![528, 1024]⟩
abbrev S512x2048 : Shape := ⟨2, ![512, 2048]⟩
abbrev S256x1024 : Shape := ⟨2, ![256, 1024]⟩
abbrev S2048x1024 : Shape := ⟨2, ![2048, 1024]⟩
abbrev S256x2048 : Shape := ⟨2, ![256, 2048]⟩
abbrev S2176x1024 : Shape := ⟨2, ![2176, 1024]⟩
abbrev S256x2176 : Shape := ⟨2, ![256, 2176]⟩
abbrev S16x1024 : Shape := ⟨2, ![16, 1024]⟩
abbrev S256x16 : Shape := ⟨2, ![256, 16]⟩
abbrev S16x256 : Shape := ⟨2, ![16, 256]⟩
abbrev S256x64 : Shape := ⟨2, ![256, 64]⟩
abbrev S256x256 : Shape := ⟨2, ![256, 256]⟩
abbrev S16x2048 : Shape := ⟨2, ![16, 2048]⟩
abbrev S1x256 : Shape := ⟨2, ![1, 256]⟩
abbrev S1x64x128 : Shape := ⟨3, ![1, 64, 128]⟩
abbrev S64x128 : Shape := ⟨2, ![64, 128]⟩
abbrev S256x128 : Shape := ⟨2, ![256, 128]⟩
abbrev S1x1 : Shape := ⟨2, ![1, 1]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S4240x1024, .f32⟩
  | .hbm, ⟨2, _⟩ => ⟨S2176x1x4, .f32⟩
  | .hbm, ⟨3, _⟩ => ⟨S2176, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S2048, .f32⟩
  | .hbm, ⟨8, _⟩ => ⟨S1024x2048, .f32⟩
  | .hbm, ⟨9, _⟩ => ⟨S2176x4, .f32⟩
  | .hbm, ⟨10, _⟩ => ⟨S4x2176, .f32⟩
  | .hbm, ⟨11, _⟩ => ⟨S1x2176, .f32⟩
  | .hbm, ⟨12, _⟩ => ⟨S1x16, .f32⟩
  | .hbm, ⟨13, _⟩ => ⟨S16x1, .f32⟩
  | .hbm, ⟨14, _⟩ => ⟨S16, .f32⟩
  | .hbm, ⟨15, _⟩ => ⟨S16, .f32⟩
  | .hbm, ⟨16, _⟩ => ⟨S1x16, .f32⟩
  | .hbm, ⟨17, _⟩ => ⟨S16x1, .f32⟩
  | .hbm, ⟨18, _⟩ => ⟨S16x128, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S4240x1024, .f32⟩
  | .local _ .vmem, ⟨3, _⟩ => ⟨S4x2176, .f32⟩
  | .local _ .vmem, ⟨4, _⟩ => ⟨S1x2176, .f32⟩
  | .local _ .vmem, ⟨5, _⟩ => ⟨S1x16, .f32⟩
  | .local _ .vmem, ⟨6, _⟩ => ⟨S16x1, .f32⟩
  | .local _ .vmem, ⟨7, _⟩ => ⟨S1x16, .f32⟩
  | .local _ .vmem, ⟨8, _⟩ => ⟨S16x1, .f32⟩
  | .local _ .vmem, ⟨9, _⟩ => ⟨S1x2048, .f32⟩
  | .local _ .vmem, ⟨10, _⟩ => ⟨S1x2048, .f32⟩
  | .local _ .vmem, ⟨11, _⟩ => ⟨S1024x2048, .f32⟩
  | .local _ .vmem, ⟨12, _⟩ => ⟨S1x256x1024, .f32⟩
  | .local _ .vmem, ⟨13, _⟩ => ⟨S1x256x1024, .f32⟩
  | .local _ .vmem, ⟨14, _⟩ => ⟨S264x2176, .f32⟩
  | .local _ .vmem, ⟨15, _⟩ => ⟨S16x64x128, .f32⟩
  | .local _ .vmem, ⟨16, _⟩ => ⟨S4224x1024, .bf16⟩
  | .local _ .vmem, ⟨17, _⟩ => ⟨S1024x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4240x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S4240x1024 : Shape := ⟨2, ![4240, 1024]⟩
abbrev S2176x1x4 : Shape := ⟨3, ![2176, 1, 4]⟩
abbrev S2176 : Shape := ⟨1, ![2176]⟩
abbrev S16 : Shape := ⟨1, ![16]⟩
abbrev S2048 : Shape := ⟨1, ![2048]⟩
abbrev S1024x2048 : Shape := ⟨2, ![1024, 2048]⟩
abbrev S2192x1024 : Shape := ⟨2, ![2192, 1024]⟩
abbrev S2x2048x2192 : Shape := ⟨3, ![2, 2048, 2192]⟩
abbrev S2x2048x2176 : Shape := ⟨3, ![2, 2048, 2176]⟩
abbrev S2x2048x16 : Shape := ⟨3, ![2, 2048, 16]⟩
abbrev S1x1x16 : Shape := ⟨3, ![1, 1, 16]⟩
abbrev S_ : Shape := ⟨0, ![]⟩
abbrev S2x2051x2176 : Shape := ⟨3, ![2, 2051, 2176]⟩
abbrev S2176x1x1 : Shape := ⟨3, ![2176, 1, 1]⟩
abbrev S1x1x2176 : Shape := ⟨3, ![1, 1, 2176]⟩
abbrev S2x2048x2048 : Shape := ⟨3, ![2, 2048, 2048]⟩
abbrev S2x2048x16x128 : Shape := ⟨4, ![2, 2048, 16, 128]⟩
abbrev S2x2048x64 : Shape := ⟨3, ![2, 2048, 64]⟩
abbrev S2x16x128x64 : Shape := ⟨4, ![2, 16, 128, 64]⟩
abbrev S2048x2x16 : Shape := ⟨3, ![2048, 2, 16]⟩
abbrev S2048x2x16x128 : Shape := ⟨4, ![2048, 2, 16, 128]⟩
abbrev S2048x2x64 : Shape := ⟨3, ![2048, 2, 64]⟩
abbrev S1x2x16 : Shape := ⟨3, ![1, 2, 16]⟩
abbrev S2x16 : Shape := ⟨2, ![2, 16]⟩
abbrev S1x2x16x128 : Shape := ⟨4, ![1, 2, 16, 128]⟩
abbrev S2x16x128 : Shape := ⟨3, ![2, 16, 128]⟩
abbrev S1x2x64 : Shape := ⟨3, ![1, 2, 64]⟩
abbrev S2x64 : Shape := ⟨2, ![2, 64]⟩
abbrev S1x16 : Shape := ⟨2, ![1, 16]⟩
abbrev S2x16x1x1 : Shape := ⟨4, ![2, 16, 1, 1]⟩
abbrev S2x16x128x1 : Shape := ⟨4, ![2, 16, 128, 1]⟩
abbrev S2x1x1x64 : Shape := ⟨4, ![2, 1, 1, 64]⟩
abbrev S1x16x1 : Shape := ⟨3, ![1, 16, 1]⟩
abbrev S2048x1024 : Shape := ⟨2, ![2048, 1024]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 177
  | .vmem => 0
  | .smem => 0
  | _ => 0

abbrev hbmTy0_0 (i : Nat) : BufTy := match i % 128 with
  | 0 => ⟨S2x2048x1024, .f32⟩
  | 1 => ⟨S4240x1024, .f32⟩
  | 2 => ⟨S2176x1x4, .f32⟩
  | 3 => ⟨S2176, .f32⟩
  | 4 => ⟨S16, .f32⟩
  | 5 => ⟨S16, .f32⟩
  | 6 => ⟨S16, .f32⟩
  | 7 => ⟨S2048, .f32⟩
  | 8 => ⟨S1024x2048, .f32⟩
  | 9 => ⟨S2192x1024, .f32⟩
  | 10 => ⟨S2x2048x2192, .f32⟩
  | 11 => ⟨S2x2048x2176, .f32⟩
  | 12 => ⟨S2x2048x16, .f32⟩
  | 13 => ⟨S1x1x16, .f32⟩
  | 14 => ⟨S2x2048x16, .f32⟩
  | 15 => ⟨S2x2048x16, .f32⟩
  | 16 => ⟨S_, .f32⟩
  | 17 => ⟨S2x2048x16, .f32⟩
  | 18 => ⟨S2x2048x16, .f32⟩
  | 19 => ⟨S2x2048x16, .f32⟩
  | 20 => ⟨S2x2048x16, .f32⟩
  | 21 => ⟨S2x2048x16, .i1⟩
  | 22 => ⟨S2x2048x16, .f32⟩
  | 23 => ⟨S2x2048x16, .f32⟩
  | 24 => ⟨S2x2048x16, .f32⟩
  | 25 => ⟨S2x2048x16, .f32⟩
  | 26 => ⟨S2x2048x16, .f32⟩
  | 27 => ⟨S2x2048x16, .f32⟩
  | 28 => ⟨S2x2048x16, .f32⟩
  | 29 => ⟨S2x2048x16, .f32⟩
  | 30 => ⟨S_, .i32⟩
  | 31 => ⟨S_, .f32⟩
  | 32 => ⟨S2x2051x2176, .f32⟩
  | 33 => ⟨S2x2048x2176, .f32⟩
  | 34 => ⟨S2176x1x1, .f32⟩
  | 35 => ⟨S2176, .f32⟩
  | 36 => ⟨S1x1x2176, .f32⟩
  | 37 => ⟨S2x2048x2176, .f32⟩
  | 38 => ⟨S2x2048x2176, .f32⟩
  | 39 => ⟨S_, .f32⟩
  | 40 => ⟨S2x2048x2176, .f32⟩
  | 41 => ⟨S2x2048x2176, .f32⟩
  | 42 => ⟨S2x2048x2176, .f32⟩
  | 43 => ⟨S2176x1x1, .f32⟩
  | 44 => ⟨S2176, .f32⟩
  | 45 => ⟨S1x1x2176, .f32⟩
  | 46 => ⟨S2x2048x2176, .f32⟩
  | 47 => ⟨S2x2048x2176, .f32⟩
  | 48 => ⟨S2x2048x2176, .f32⟩
  | 49 => ⟨S2x2048x2176, .f32⟩
  | 50 => ⟨S2176x1x1, .f32⟩
  | 51 => ⟨S2176, .f32⟩
  | 52 => ⟨S1x1x2176, .f32⟩
  | 53 => ⟨S2x2048x2176, .f32⟩
  | 54 => ⟨S2x2048x2176, .f32⟩
  | 55 => ⟨S2x2048x2176, .f32⟩
  | 56 => ⟨S2x2048x2176, .f32⟩
  | 57 => ⟨S2176x1x1, .f32⟩
  | 58 => ⟨S2176, .f32⟩
  | 59 => ⟨S1x1x2176, .f32⟩
  | 60 => ⟨S2x2048x2176, .f32⟩
  | 61 => ⟨S2x2048x2176, .f32⟩
  | 62 => ⟨S2x2048x2176, .f32⟩
  | 63 => ⟨S1x1x2176, .f32⟩
  | 64 => ⟨S2x2048x2176, .f32⟩
  | 65 => ⟨S2x2048x2176, .f32⟩
  | 66 => ⟨S2x2048x2176, .f32⟩
  | 67 => ⟨S2x2048x2176, .f32⟩
  | 68 => ⟨S_, .f32⟩
  | 69 => ⟨S2x2048x2176, .f32⟩
  | 70 => ⟨S2x2048x2176, .f32⟩
  | 71 => ⟨S_, .f32⟩
  | 72 => ⟨S2x2048x2176, .f32⟩
  | 73 => ⟨S2x2048x2176, .f32⟩
  | 74 => ⟨S2x2048x2176, .f32⟩
  | 75 => ⟨S2x2048x2048, .f32⟩
  | 76 => ⟨S2x2048x16x128, .f32⟩
  | 77 => ⟨S2x2048x64, .f32⟩
  | 78 => ⟨S2x2048x64, .f32⟩
  | 79 => ⟨S16, .f32⟩
  | 80 => ⟨S16, .f32⟩
  | 81 => ⟨S_, .f32⟩
  | 82 => ⟨S2x16x128x64, .f32⟩
  | 83 => ⟨S2048x2x16, .f32⟩
  | 84 => ⟨S2048x2x16x128, .f32⟩
  | 85 => ⟨S2048x2x64, .f32⟩
  | 86 => ⟨S2048x2x64, .f32⟩
  | 87 => ⟨S_, .f32⟩
  | 88 => ⟨S2048x2x16x128, .f32⟩
  | 89 => ⟨S_, .i32⟩
  | 90 => ⟨S2048x2x16, .f32⟩
  | 91 => ⟨S2048x2x16x128, .f32⟩
  | 92 => ⟨S2048x2x64, .f32⟩
  | 93 => ⟨S2048x2x64, .f32⟩
  | 94 => ⟨S16, .f32⟩
  | 95 => ⟨S16, .f32⟩
  | 96 => ⟨S_, .i32⟩
  | 97 => ⟨S2x16x128x64, .f32⟩
  | 98 => ⟨S2048x2x16x128, .f32⟩
  | 99 => ⟨S_, .i32⟩
  | 100 => ⟨S_, .i1⟩
  | 101 => ⟨S_, .i32⟩
  | 102 => ⟨S_, .i32⟩
  | 103 => ⟨S1x2x16, .f32⟩
  | 104 => ⟨S2x16, .f32⟩
  | 105 => ⟨S_, .i32⟩
  | 106 => ⟨S_, .i32⟩
  | 107 => ⟨S_, .i32⟩
  | 108 => ⟨S1x2x16x128, .f32⟩
  | 109 => ⟨S2x16x128, .f32⟩
  | 110 => ⟨S_, .i32⟩
  | 111 => ⟨S_, .i32⟩
  | 112 => ⟨S1x2x64, .f32⟩
  | 113 => ⟨S2x64, .f32⟩
  | 114 => ⟨S_, .i32⟩
  | 115 => ⟨S_, .i32⟩
  | 116 => ⟨S1x2x64, .f32⟩
  | 117 => ⟨S2x64, .f32⟩
  | 118 => ⟨S1x16, .f32⟩
  | 119 => ⟨S2x16, .f32⟩
  | 120 => ⟨S2x16, .f32⟩
  | 121 => ⟨S2x16, .f32⟩
  | 122 => ⟨S2x16x1x1, .f32⟩
  | 123 => ⟨S2x16x128x64, .f32⟩
  | 124 => ⟨S2x16x128x64, .f32⟩
  | 125 => ⟨S2x16x1x1, .f32⟩
  | 126 => ⟨S2x16x128x1, .f32⟩
  | 127 => ⟨S2x16x128x1, .f32⟩
  | _ => ⟨S2x2048x1024, .f32⟩

abbrev hbmTy0_1 (i : Nat) : BufTy := match i % 128 with
  | 0 => ⟨S2x16x128x1, .f32⟩
  | 1 => ⟨S2x1x1x64, .f32⟩
  | 2 => ⟨S2x16x128x64, .f32⟩
  | 3 => ⟨S2x16x128x64, .f32⟩
  | 4 => ⟨S2x16x128x64, .f32⟩
  | 5 => ⟨S2x16x128x64, .f32⟩
  | 6 => ⟨S2x16x128, .f32⟩
  | 7 => ⟨S1x16x1, .f32⟩
  | 8 => ⟨S2x16x128, .f32⟩
  | 9 => ⟨S2x16x128, .f32⟩
  | 10 => ⟨S2x16x128, .f32⟩
  | 11 => ⟨S1x2x16x128, .f32⟩
  | 12 => ⟨S_, .i32⟩
  | 13 => ⟨S_, .i32⟩
  | 14 => ⟨S_, .i32⟩
  | 15 => ⟨S2048x2x16x128, .f32⟩
  | 16 => ⟨S_, .i32⟩
  | 17 => ⟨S_, .i32⟩
  | 18 => ⟨S2x2048x16x128, .f32⟩
  | 19 => ⟨S2x2048x2048, .f32⟩
  | 20 => ⟨S2048x1024, .f32⟩
  | 21 => ⟨S2x2048x2048, .f32⟩
  | 22 => ⟨S2x2048x2048, .f32⟩
  | 23 => ⟨S2x2048x2048, .f32⟩
  | 24 => ⟨S_, .f32⟩
  | 25 => ⟨S2x2048x2048, .f32⟩
  | 26 => ⟨S2x2048x2048, .f32⟩
  | 27 => ⟨S_, .f32⟩
  | 28 => ⟨S2x2048x2048, .f32⟩
  | 29 => ⟨S2x2048x2048, .f32⟩
  | 30 => ⟨S2x2048x2048, .f32⟩
  | 31 => ⟨S2x2048x2048, .f32⟩
  | 32 => ⟨S2x2048x2048, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S_, .f32⟩
  | 40 => ⟨S2x2048x1, .f32⟩
  | 41 => ⟨S2x2048x1, .f32⟩
  | 42 => ⟨S2x2048x1, .f32⟩
  | 43 => ⟨S2x2048x2048, .f32⟩
  | 44 => ⟨S2x2048x2048, .f32⟩
  | 45 => ⟨S1x1x2048, .f32⟩
  | 46 => ⟨S2x2048x2048, .f32⟩
  | 47 => ⟨S2x2048x2048, .f32⟩
  | 48 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v7 : Ref sig .tc := ⟨.hbm, 29, rfl⟩
abbrev main_c : Ref sig .tc := ⟨.hbm, 30, rfl⟩
abbrev main_call1_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_1 : Ref sig .tc := ⟨.hbm, 87, rfl⟩
abbrev main_v53 : Ref sig .tc := ⟨.hbm, 88, rfl⟩
abbrev main_c_2 : Ref sig .tc := ⟨.hbm, 89, rfl⟩
abbrev main_v54_0 : Ref sig .tc := ⟨.hbm, 90, rfl⟩
abbrev main_v54_1 : Ref sig .tc := ⟨.hbm, 91, rfl⟩
abbrev main_v54_2 : Ref sig .tc := ⟨.hbm, 92, rfl⟩
abbrev main_v54_3 : Ref sig .tc := ⟨.hbm, 93, rfl⟩
abbrev main_v54_4 : Ref sig .tc := ⟨.hbm, 94, rfl⟩
abbrev main_v54_5 : Ref sig .tc := ⟨.hbm, 95, rfl⟩
abbrev main_v54_6 : Ref sig .tc := ⟨.hbm, 96, rfl⟩
abbrev main_v54_7 : Ref sig .tc := ⟨.hbm, 97, rfl⟩
abbrev main_v54_8 : Ref sig .tc := ⟨.hbm, 98, rfl⟩
abbrev main_while0c_c_14 : Ref sig .tc := ⟨.hbm, 99, rfl⟩
abbrev main_while0c_v75 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_v0 : Ref sig .tc := ⟨.hbm, 103, rfl⟩
abbrev main_while0b_v75 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_v0 : Ref sig .tc := ⟨.hbm, 108, rfl⟩
abbrev main_while0b_v76 : Ref sig .tc := ⟨.hbm, 109, rfl⟩
abbrev main_while0b_call5_c : Ref sig .tc := ⟨.hbm, 110, rfl⟩
abbrev main_while0b_call5_c_0 : Ref sig .tc := ⟨.hbm, 111, rfl⟩
abbrev main_while0b_call5_v0 : Ref sig .tc := ⟨.hbm, 112, rfl⟩
abbrev main_while0b_v77 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_v0 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_call7_v0 : Ref sig .tc := ⟨.hbm, 139, rfl⟩
abbrev main_while0b_call7_c : Ref sig .tc := ⟨.hbm, 140, rfl⟩
abbrev main_while0b_call7_c_0 : Ref sig .tc := ⟨.hbm, 141, rfl⟩
abbrev main_while0b_call7_c_1 : Ref sig .tc := ⟨.hbm, 142, rfl⟩
abbrev main_while0b_v100 : Ref sig .tc := ⟨.hbm, 143, rfl⟩
abbrev main_while0b_c_14 : Ref sig .tc := ⟨.hbm, 144, rfl⟩
abbrev main_while0b_v101 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_call8_v0 : Ref sig .tc := ⟨.hbm, 150, rfl⟩
abbrev main_call8_v1 : Ref sig .tc := ⟨.hbm, 151, rfl⟩
abbrev main_call8_cst : Ref sig .tc := ⟨.hbm, 152, rfl⟩
abbrev main_call8_v2 : Ref sig .tc := ⟨.hbm, 153, rfl⟩
abbrev main_call8_v3 : Ref sig .tc := ⟨.hbm, 154, rfl⟩
abbrev main_call8_cst_0 : Ref sig .tc := ⟨.hbm, 155, rfl⟩
abbrev main_call8_v4 : Ref sig .tc := ⟨.hbm, 156, rfl⟩
abbrev main_call8_v5 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_cst_3 : Ref sig .tc := ⟨.hbm, 161, rfl⟩
abbrev main_v62 : Ref sig .tc := ⟨.hbm, 162, rfl⟩
abbrev main_v63 : Ref sig .tc := ⟨.hbm, 163, rfl⟩
abbrev main_cst_4 : Ref sig .tc := ⟨.hbm, 164, rfl⟩
abbrev main_v64 : Ref sig .tc := ⟨.hbm, 165, rfl⟩
abbrev main_v65 : Ref sig .tc := ⟨.hbm, 166, rfl⟩
abbrev main_cst_5 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩

abbrev nD : Nat := 1
abbrev τ : Topo := Topo.v7x

variable {F : FTy → Type} [FloatOps F]

abbrev main_while0_count : Scf.Loop 32 := ⟨0#32, 2048#32, 1#32⟩
-- ==== Proof.KernelBody.lean ====
module

public import proofs.«01_k».proof.Proof.Gen.Kernel.Frame
public import proofs.«01_k».proof.Proof.Gen.Kernel.Skeleton

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- The kernel's one branch condition at a grid point: the sequence coordinate is zero. -/
abbrev atStart (i : grid0.Coords) : Prop :=
  (Scalar.cmpi .ne (Scalar.extui (Scalar.cmpi .eq (BitVec.ofNat 32 (i 1).val) 0#32)) 0#32) = 1#1

variable (c : Dev nD) (i : grid0.Coords)
variable (arg2 : Memref sig .tc .vmem S1x256x1024 .f32) (harg2 : arg2.IsWhole)
variable (arg3 : Memref sig .tc .vmem S4240x1024 .f32) (harg3 : arg3.IsWhole)
variable (arg4 : Memref sig .tc .vmem S4x2176 .f32) (harg4 : arg4.IsWhole)
variable (arg5 : Memref sig .tc .vmem S1x2176 .f32) (harg5 : arg5.IsWhole)
variable (arg6 : Memref sig .tc .vmem S1x16 .f32) (harg6 : arg6.IsWhole)
variable (arg7 : Memref sig .tc .vmem S16x1 .f32) (harg7 : arg7.IsWhole)
variable (arg8 : Memref sig .tc .vmem S1x16 .f32) (harg8 : arg8.IsWhole)
variable (arg9 : Memref sig .tc .vmem S16x1 .f32) (harg9 : arg9.IsWhole)
variable (arg10 : Memref sig .tc .vmem S1x2048 .f32) (harg10 : arg10.IsWhole)
variable (arg11 : Memref sig .tc .vmem S1x2048 .f32) (harg11 : arg11.IsWhole)
variable (arg12 : Memref sig .tc .vmem S1024x2048 .f32) (harg12 : arg12.IsWhole)
variable (arg13 : Memref sig .tc .vmem S1x256x1024 .f32) (harg13 : arg13.IsWhole)
variable (arg14 : Memref sig .tc .vmem S264x2176 .f32) (harg14 : arg14.IsWhole)
variable (arg15 : Memref sig .tc .vmem S16x64x128 .f32) (harg15 : arg15.IsWhole)
variable (arg16 : Memref sig .tc .vmem S4224x1024 .bf16) (harg16 : arg16.IsWhole)
variable (arg17 : Memref sig .tc .vmem S1024x2048 .bf16) (harg17 : arg17.IsWhole)
variable (x2 : Vec F S1x256x1024 .f32) (x3 : Vec F S4240x1024 .f32) (x4 : Vec F S4x2176 .f32) (x5 : Vec F S1x2176 .f32) (x6 : Vec F S1x16 .f32) (x7 : Vec F S16x1 .f32) (x8 : Vec F S1x16 .f32) (x9 : Vec F S16x1 .f32) (x10 : Vec F S1x2048 .f32) (x11 : Vec F S1x2048 .f32) (x12 : Vec F S1024x2048 .f32)

set_option maxHeartbeats 4000000 in
/-- The body at the first point of a sequence, run on whole buffers: the operands keep their contents, and the result block and the
    four scratch buffers are handed back at some contents. -/
theorem body_start (hc : atStart i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mamba_kernel_eq_skeleton]; unfold cc0__mamba_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

set_option maxHeartbeats 4000000 in
/-- The body at a point that is not the first of its sequence, run on whole buffers: the operands keep their contents, and the result block and the
    four scratch buffers are handed back at some contents. -/
theorem body_later (hc : ¬atStart i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mamba_kernel_eq_skeleton]; unfold cc0__mamba_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Layer

end
-- ==== Proof.KernelFrame.lean ====
module

public import proofs.«01_k».proof.Proof.Gen.Kernel.Frame
public import proofs.«01_k».proof.Proof.KernelBody
public import proofs.«01_k».proof.Proof.Gen.Kernel.Points
public import proofs.«01_k».proof.Proof.Gen.Kernel.Launch
public import Idealize.ShloMosaic.Lib.Pipeline.FrameBody

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the body besides its windows: the four scratch buffers at some contents, and the
    generator register at some state. -/
theorem scratch_owned (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- The windows nothing is stated of: the result's. -/
abbrev forgets : Fin cfg0.W → Prop := fun w => w = 11

/-- The launch's proof data: each operand's window keeps its block, the scratch is at some contents. -/
def dats (_ : Fin 1) (c : Dev nD) : Dat τ (Elt F) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => iblk m c 8 t
    | 9 => fun t => iblk m c 9 t
    | 10 => fun t => iblk m c 10 t
    | 11 => Pipeline.Dat.unnamed (cfg := cfg0) 11
  Φ _ := Pipeline.ΦA spec0 c
  q _ := fullShare
  owed _ := 0

/-- The data's arrays are what the region finds. -/
theorem dats_array (c : Dev nD) (w : Fin cfg0.W) : (dats m 0 c).A w = V m c (Pipeline.arrRef spec0 w) := by
  dsimp only [dats]

/-- Window 0 holds its block before the body at every point. -/
theorem before_0 (c : Dev nD) (t : Fin cfg0.N) (d) : (dats m 0 c).before 0 t d = iblk m c 0 t :=
  before0_0_of m (dats m 0 c) (dats_array m c 0) (fun _ => by dsimp only [dats]) t d
/-- Window 1 holds its block before the body at every point. -/
theorem before_1 (c : Dev nD) (t : Fin cfg0.N) (d) : (dats m 0 c).before 1 t d = iblk m c 1 t :=
  before0_1_of m (dats m 0 c) (dats_array m c 1) (fun _ => by dsimp only [dats]) t d
/-- Window 2 holds its block before the body at every point. -/
theorem before_2 (c : Dev nD) (t : Fin cfg0.N) (d) : (dats m 0 c).before 2 t d = iblk m c 2 t :=
  before0_2_of m (dats m 0 c) (dats_array m c 2) (fun _ => by dsimp only [dats]) t d
/-- Window 3 holds its block before the body at every point. -/
theorem before_3 (c : Dev nD) (t : Fin cfg0.N) (d) : (dats m 0 c).before 3 t d = iblk m c 3 t :=
  before0_3_of m (dats m 0 c) (dats_array m c 3) (fun _ => by dsimp only [dats]) t d
/-- Window 4 holds its block before the body at every point. -/
theorem before_4 (c : Dev nD) (t : Fin cfg0.N) (d) : (dats m 0 c).before 4 t d = iblk m c 4 t :=
  before0_4_of m (dats m 0 c) (dats_array m c 4) (fun _ => by dsimp only [dats]) t d
/-- Window 5 holds its block before the body at every point. -/
theorem before_5 (c : Dev nD) (t : Fin cfg0.N) (d) : (dats m 0 c).before 5 t d = iblk m c 5 t :=
  before0_5_of m (dats m 0 c) (dats_array m c 5) (fun _ => by dsimp only [dats]) t d
/-- Window 6 holds its block before the body at every point. -/
theorem before_6 (c : Dev nD) (t : Fin cfg0.N) (d) : (dats m 0 c).before 6 t d = iblk m c 6 t :=
  before0_6_of m (dats m 0 c) (dats_array m c 6) (fun _ => by dsimp only [dats]) t d
/-- Window 7 holds its block before the body at every point. -/
theorem before_7 (c : Dev nD) (t : Fin cfg0.N) (d) : (dats m 0 c).before 7 t d = iblk m c 7 t :=
  before0_7_of m (dats m 0 c) (dats_array m c 7) (fun _ => by dsimp only [dats]) t d
/-- Window 8 holds its block before the body at every point. -/
theorem before_8 (c : Dev nD) (t : Fin cfg0.N) (d) : (dats m 0 c).before 8 t d = iblk m c 8 t :=
  before0_8_of m (dats m 0 c) (dats_array m c 8) (fun _ => by dsimp only [dats]) t d
/-- Window 9 holds its block before the body at every point. -/
theorem before_9 (c : Dev nD) (t : Fin cfg0.N) (d) : (dats m 0 c).before 9 t d = iblk m c 9 t :=
  before0_9_of m (dats m 0 c) (dats_array m c 9) (fun _ => by dsimp only [dats]) t d
/-- Window 10 holds its block before the body at every point. -/
theorem before_10 (c : Dev nD) (t : Fin cfg0.N) (d) : (dats m 0 c).before 10 t d = iblk m c 10 t :=
  before0_10_of m (dats m 0 c) (dats_array m c 10) (fun _ => by dsimp only [dats]) t d

/-- What the body is called with at point `t`. -/
def bodyGiven (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d))

/-- What it gives back. -/
def bodyLeft (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d))

set_option maxHeartbeats 3200000 in
/-- The body at any point gives back what the launch expects of it. -/
theorem body_sound (c : Dev nD) (t : Fin cfg0.N) :
    bodyGiven m c t ⊢ wp frame (wpE (defs₀ (F := F)) Variants.none c none) Set.univ (bodyAt0 t) (fun _ => bodyLeft m c t) := by
  unfold bodyGiven bodyLeft bodyAt0
  simp only [before_0, before_1, before_2, before_3, before_4, before_5, before_6, before_7, before_8, before_9, before_10]
  rw [show (dats m 0 c).owesAt () t.succ = (dats m 0 c).owesAt () t.castSucc from rfl,
    show (dats m 0 c).Φ t.castSucc = Pipeline.ΦA spec0 c from rfl,
    show (dats m 0 c).Φ t.succ = Pipeline.ΦA spec0 c from rfl, scratch_owned]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases hc : atStart (grid0.coords t)
  · iapply (body_start c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iapply (body_later c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [S0]; · iexact S0
    isplitl [S1]; · iexact S1
    isplitl [S2]; · iexact S2
    isplitl [S3]; · iexact S3
    iintro ⟨H0, H1, H2, H3, H4, H5, H6, H7, H8, H9, H10, H11, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The launch's obligation on the body, at every point. -/
theorem body_obligation (c : Dev nD) :
    BodyObligation (dats (F := F) m 0 c) (defs₀ (F := F)) Variants.none () Set.univ forgets := fun t => by
  rw [bigSep_W0, bigSep_W0, body_row]
  exact triple_restated (body_sound m c t) rfl .rfl fun _ => .rfl

set_option backward.isDefEq.respectTransparency.types false in
/-- Every execution terminates with the operands' arrays and every other buffer as the region found them, and
    every semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := dats_array m) (hin := fun _ => .rfl) (hout := fun _ => .rfl)

/-- The frame: every execution terminates, the arguments end unchanged, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
    (Pipeline.RDat.FramePost.arr_in h.1 c 0 rfl).trans ((dats_array m c 0).trans (V_main_arg0 m c)),
    (Pipeline.RDat.FramePost.arr_in h.1 c 1 rfl).trans ((dats_array m c 1).trans (V_main_arg1 m c)),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    (Pipeline.RDat.FramePost.arr_in h.1 c 10 rfl).trans ((dats_array m c 10).trans (V_main_arg8 m c))⟩, h.2⟩) (run_main m ρ)

end Cert.Kernel.Layer

end
-- ==== Proof.IdealChunk.lean ====
module

public import proofs.«01_k».proof.Proof.Gen.KernelIdeal.Frame
public import proofs.«01_k».proof.Proof.Gen.KernelIdeal.Skeleton

public import Idealize.ShloMosaic.Lib.VecWindow
public import Idealize.ShloMosaic.Lib.Pointwise.Index

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The kernel's one branch condition at a grid point: the sequence coordinate is zero. -/
abbrev atStart (i : grid0.Coords) : Prop :=
  (Scalar.cmpi .ne (Scalar.extui (Scalar.cmpi .eq (BitVec.ofNat 32 (i 1).val) 0#32)) 0#32) = 1#1

/-- What one grid point loads, value by value: the input block, the weights' parts, the shifted windows of the
    convolution's buffer with their weights and bias, the step-size and decay rows and columns, the heads' states, and the
    rows and the weights of the closing part. -/
structure Loads (F : FTy → Type) where
  v3 : Vec F S1x256x1024 .f32
  v6 : Vec F S2048x1024 .bf16
  v8 : Vec F S2176x1024 .bf16
  v10 : Vec F S16x1024 .f32
  v16 : Vec F S1x2176 .f32
  v18 : Vec F S256x2176 .f32
  v21 : Vec F S1x2176 .f32
  v23 : Vec F S256x2176 .f32
  v27 : Vec F S1x2176 .f32
  v29 : Vec F S256x2176 .f32
  v33 : Vec F S1x2176 .f32
  v35 : Vec F S256x2176 .f32
  v39 : Vec F S1x2176 .f32
  v43 : Vec F S3x2176 .f32
  v52 : Vec F S1x16 .f32
  v64 : Vec F S16x1 .f32
  v76 : Vec F S1x16 .f32
  v80 : Vec F S16x1 .f32
  st : Fin 16 → Vec F S1x64x128 .f32
  v623 : Vec F S1x2048 .f32
  v641 : Vec F S1x2048 .f32
  v646 : Vec F S1024x2048 .bf16

/-- Head `h`'s row of a 16-row matrix is in range. -/
theorem slices_head_row (h : Fin 16) : S16x256.Slices ![h.val, 0] S1x256 :=
  ⟨rfl, fun a => by have := h.isLt; match a with | 0 => show h.val + 1 ≤ 16; omega | 1 => show 0 + 256 ≤ 256; omega⟩
/-- Head `h`'s 128 columns are in range. -/
theorem slices_head_cols (h : Fin 16) : S256x2048.Slices ![0, 128 * h.val] S256x128 :=
  ⟨rfl, fun a => by have := h.isLt; match a with | 0 => show 0 + 256 ≤ 256; omega | 1 => show 128 * h.val + 128 ≤ 2048; omega⟩
/-- Head `h`'s entry of a row of 16 is in range. -/
theorem slices_head_one (h : Fin 16) : S1x16.Slices ![0, h.val] S1x1 :=
  ⟨rfl, fun a => by have := h.isLt; match a with | 0 => show 0 + 1 ≤ 1; omega | 1 => show h.val + 1 ≤ 16; omega⟩
/-- Head `h`'s plane of the state is in range. -/
theorem inb_head (h : Fin 16) : ∀ a, (![h.val, 0, 0] : Fin 3 → ℕ) a + S1x64x128.size a ≤ S16x64x128.size a :=
  fun a => by have := h.isLt; match a with | 0 => show h.val + 1 ≤ 16; omega | 1 => show 0 + 64 ≤ 64; omega | 2 => show 0 + 128 ≤ 128; omega

/-- The column of ones at row `h`, zeros elsewhere: what picks head `h` out of a matrix with one column per head. -/
def headPick (h : Fin 16) : FVec F S16x256 .f32 :=
  select (cmpi .eq (iota .tc S16x256 32 [0] iota_S16x256_d0_w32) (broadcast S16x256 (BitVec.ofNat 32 h.val)))
    (broadcast S16x256 (Scalar.ofBits .f32 0x3F800000#32 : F .f32)) (broadcast S16x256 (Scalar.ofBits .f32 0x00000000#32 : F .f32))

/-- Head `h`'s decay factors between the chunk's positions, zero above the diagonal. -/
def decay (h : Fin 16) (v92 : FVec F S256x256 .f32) (v93 : FVec F S256x16 .f32) (v94 : FVec F S16x256 .f32) : FVec F S256x256 .f32 :=
  exp (addf (subf (matmul dot_S256x16_S16x256_S256x256_1_0_0_1_n_n none v93 (headPick h) (constant S256x256 .f32 0x00000000#32))
    (broadcastTo S256x256 (extractStridedSlice S1x256 ![h.val, 0] v94 (slices_head_row h)) broadcasts_S1x256_S256x256)) v92)

/-- Head `h`'s output over the chunk: within the chunk through the decay factors, from before it through the state. -/
def headOut (h : Fin 16) (v92 : FVec F S256x256 .f32) (v93 : FVec F S256x16 .f32) (v94 : FVec F S16x256 .f32)
    (v118 : FVec F S256x2048 .f32) (v120 : FVec F S256x2048 .bf16) (v123 : FVec F S256x64 .bf16) (v124 : FVec F S256x256 .f32)
    (st : Vec F S1x64x128 .f32) : FVec F S256x128 .f32 :=
  addf
    (matmul dot_S256x256_S256x128_S256x128_1_0_0_1_n_n none (truncf .bf16 (mulf v124 (decay h v92 v93 v94)) bitsLt_bf16_f32)
      (extractStridedSlice S256x128 ![0, 128 * h.val] v120 (slices_head_cols h)) (constant S256x128 .f32 0x00000000#32))
    (mulf (extractStridedSlice S256x128 ![0, 128 * h.val] v118 (slices_head_cols h))
      (matmul dot_S256x64_S64x128_S256x128_1_0_0_1_n_n none v123
        (truncf .bf16 (shapeCast S64x128 st shapeCasts_S1x64x128_S64x128) bitsLt_bf16_f32) (constant S256x128 .f32 0x00000000#32)))

/-- Head `h`'s state after the chunk. -/
def headState (h : Fin 16) (v96 : FVec F S1x16 .f32) (v121 : FVec F S256x2048 .bf16) (v122 : FVec F S256x64 .bf16)
    (st : Vec F S1x64x128 .f32) : FVec F S1x64x128 .f32 :=
  shapeCast S1x64x128
    (addf (mulf (shapeCast S64x128 st shapeCasts_S1x64x128_S64x128)
        (broadcastTo S64x128 (extractStridedSlice S1x1 ![0, h.val] v96 (slices_head_one h)) broadcasts_S1x1_S64x128))
      (matmul dot_S256x64_S256x128_S64x128_0_0_1_1_n_n none v122
        (extractStridedSlice S256x128 ![0, 128 * h.val] v121 (slices_head_cols h)) (constant S64x128 .f32 0x00000000#32)))
    shapeCasts_S64x128_S1x64x128

namespace Loads

variable (L : Loads F)

/-- The gate's input. -/
def z : FVec F S256x2048 .f32 := k0_pay16 L.v3 L.v6
/-- The chunk's rows of the convolution's input. -/
def xbc : FVec F S256x2176 .f32 := k0_pay19 L.v3 L.v8
/-- The convolution with its activation. -/
def conv : FVec F S256x2176 .f32 := k0_pay23 (k0_pay20 L.v16 L.v18 L.v21 L.v23) (k0_pay21 L.v27) L.v29 L.v33 L.v35 L.v39
/-- Its part for the heads. -/
def xs : FVec F S256x2048 .f32 := k0_pay24 (k0_pay20 L.v16 L.v18 L.v21 L.v23) (k0_pay21 L.v27) L.v29 L.v33 L.v35 L.v39
/-- Its part that enters the state. -/
def bs : FVec F S256x64 .f32 := k0_pay25 (k0_pay20 L.v16 L.v18 L.v21 L.v23) (k0_pay21 L.v27) L.v29 L.v33 L.v35 L.v39
/-- Its part that reads the state. -/
def cs : FVec F S256x64 .f32 := k0_pay26 (k0_pay20 L.v16 L.v18 L.v21 L.v23) (k0_pay21 L.v27) L.v29 L.v33 L.v35 L.v39
/-- The rows the next chunk's convolution looks back on. -/
def halo : FVec F S3x2176 .f32 := k0_pay22 L.v43
/-- The step sizes, a row per position. -/
def dt : FVec F S256x16 .f32 := k0_pay27 (k0_pay17 L.v3 L.v10) L.v52
/-- The running sums of the decay rates, a row per position. -/
def sumRow : FVec F S256x16 .f32 := k0_pay33 L.dt L.v76
/-- The running sums of the decay rates, a column per position. -/
def sumCol : FVec F S16x256 .f32 := k0_pay34 (k0_pay28 (k0_pay18 L.v3 L.v10) L.v64) k0_pay29 L.v80
/-- The decay over the whole chunk. -/
def last : FVec F S1x16 .f32 := k0_pay36 L.dt L.v76
/-- The decay from the chunk's start, over the heads' columns. -/
def fromStart : FVec F S256x2048 .f32 := k0_pay40 (k0_pay35 L.dt L.v76) k0_pay38
/-- The heads' inputs scaled by the step sizes. -/
def xdt : FVec F S256x2048 .bf16 := k0_pay42 L.xs (k0_pay39 L.dt)
/-- The heads' inputs scaled by the step sizes and the decay to the chunk's end. -/
def xend : FVec F S256x2048 .bf16 := k0_pay43 L.xs (k0_pay37 L.dt L.v76) k0_pay38
/-- Head `h`'s output. -/
def y [Named F] (h : Fin 16) : FVec F S256x128 .f32 :=
  headOut h k0_pay32 L.sumRow L.sumCol L.fromStart L.xdt (k0_pay45 L.cs) (k0_pay46 L.bs L.cs) (L.st h)
/-- Head `h`'s state after the chunk. -/
def stNew (h : Fin 16) : FVec F S1x64x128 .f32 := headState h L.last L.xend (k0_pay44 L.bs) (L.st h)
/-- The heads' outputs side by side. -/
def ys [Named F] : FVec F S256x2048 .f32 :=
  concatenate S256x2048 1 [⟨S256x128, L.y 0⟩, ⟨S256x128, L.y 1⟩, ⟨S256x128, L.y 2⟩, ⟨S256x128, L.y 3⟩, ⟨S256x128, L.y 4⟩, ⟨S256x128, L.y 5⟩, ⟨S256x128, L.y 6⟩, ⟨S256x128, L.y 7⟩, ⟨S256x128, L.y 8⟩, ⟨S256x128, L.y 9⟩, ⟨S256x128, L.y 10⟩, ⟨S256x128, L.y 11⟩, ⟨S256x128, L.y 12⟩, ⟨S256x128, L.y 13⟩, ⟨S256x128, L.y 14⟩, ⟨S256x128, L.y 15⟩]
    concatenates_S256x128_S256x128_S256x128_S256x128_S256x128_S256x128_S256x128_S256x128_S256x128_S256x128_S256x128_S256x128_S256x128_S256x128_S256x128_S256x128_S256x2048_d1
/-- The block of the result. -/
def out [Named F] : FVec F S1x256x1024 .f32 := k0_pay1 (k0_pay106 L.z L.xs L.ys L.v623 L.v641) L.v646

end Loads

/-! ## What the scratch buffers hold when the loads are made -/

/-- The convolution's buffer: three zero rows at the front at a sequence's first point. -/
def buf0 (i : grid0.Coords) (x14 : Vec F S264x2176 .f32) : Vec F S264x2176 .f32 :=
  if atStart i then VecWindow.put x14 ![0, 0] S3x2176.size k0_pay2 else x14
/-- The states: zero at a sequence's first point. -/
def state0 (i : grid0.Coords) (x15 : Vec F S16x64x128 .f32) : Vec F S16x64x128 .f32 :=
  if atStart i then k0_pay3 else x15
/-- The input weights as the products take them, but for the last rows: filled at a sequence's first point. -/
def win0 (i : grid0.Coords) (x3 : Vec F S4240x1024 .f32) (x16 : Vec F S4224x1024 .bf16) : Vec F S4224x1024 .bf16 :=
  if atStart i then truncf .bf16 (fun y : S4224x1024.Idx => x3 (fun a => ⟨(y a).val, by
    have := (y a).isLt; match a with | 0 => exact lt_of_lt_of_le this (by show 4224 ≤ 4240; omega) | 1 => exact this⟩)) bitsLt_bf16_f32 else x16
/-- The output weights as the product takes them: filled at a sequence's first point. -/
def wout0 (i : grid0.Coords) (x12 : Vec F S1024x2048 .f32) (x17 : Vec F S1024x2048 .bf16) : Vec F S1024x2048 .bf16 :=
  if atStart i then truncf .bf16 x12 bitsLt_bf16_f32 else x17

variable (i : grid0.Coords)
variable (x2 : Vec F S1x256x1024 .f32) (x3 : Vec F S4240x1024 .f32) (x4 : Vec F S4x2176 .f32) (x5 : Vec F S1x2176 .f32) (x6 : Vec F S1x16 .f32) (x7 : Vec F S16x1 .f32) (x8 : Vec F S1x16 .f32) (x9 : Vec F S16x1 .f32) (x10 : Vec F S1x2048 .f32) (x11 : Vec F S1x2048 .f32) (x12 : Vec F S1024x2048 .f32) (x14 : Vec F S264x2176 .f32) (x15 : Vec F S16x64x128 .f32) (x16 : Vec F S4224x1024 .bf16) (x17 : Vec F S1024x2048 .bf16)

/-- The convolution's buffer with the chunk's rows behind the three rows before it. -/
def buf1 : Vec F S264x2176 .f32 :=
  VecWindow.put (buf0 i x14) ![3, 0] S256x2176.size
    (k0_pay19 x2 (VecWindow.window (win0 i x3 x16) ![2048, 0] S2176x1024.size inb_S4224x1024_S2176x1024_2048_0))

/-- The loads of a grid point, from what the operands and the scratch buffers hold. -/
def loads : Loads F where
  v3 := x2
  v6 := VecWindow.window (win0 i x3 x16) ![0, 0] S2048x1024.size inb_S4224x1024_S2048x1024_0_0
  v8 := VecWindow.window (win0 i x3 x16) ![2048, 0] S2176x1024.size inb_S4224x1024_S2176x1024_2048_0
  v10 := VecWindow.window x3 ![4224, 0] S16x1024.size inb_S4240x1024_S16x1024_4224_0
  v16 := VecWindow.window x4 ![0, 0] S1x2176.size inb_S4x2176_S1x2176_0_0
  v18 := VecWindow.window (buf1 i x2 x3 x14 x16) ![0, 0] S256x2176.size inb_S264x2176_S256x2176_0_0
  v21 := VecWindow.window x4 ![1, 0] S1x2176.size inb_S4x2176_S1x2176_1_0
  v23 := VecWindow.window (buf1 i x2 x3 x14 x16) ![1, 0] S256x2176.size inb_S264x2176_S256x2176_1_0
  v27 := VecWindow.window x4 ![2, 0] S1x2176.size inb_S4x2176_S1x2176_2_0
  v29 := VecWindow.window (buf1 i x2 x3 x14 x16) ![2, 0] S256x2176.size inb_S264x2176_S256x2176_2_0
  v33 := VecWindow.window x4 ![3, 0] S1x2176.size inb_S4x2176_S1x2176_3_0
  v35 := VecWindow.window (buf1 i x2 x3 x14 x16) ![3, 0] S256x2176.size inb_S264x2176_S256x2176_3_0
  v39 := x5
  v43 := VecWindow.window (buf1 i x2 x3 x14 x16) ![256, 0] S3x2176.size inb_S264x2176_S3x2176_256_0
  v52 := x6
  v64 := x7
  v76 := x8
  v80 := x9
  st h := VecWindow.window (state0 i x15) ![h.val, 0, 0] S1x64x128.size (inb_head h)
  v623 := x10
  v641 := x11
  v646 := wout0 i x12 x17

/-- The convolution's buffer after the point: the chunk's last three rows moved to the front. -/
def buf2 : Vec F S264x2176 .f32 :=
  VecWindow.put (buf1 i x2 x3 x14 x16) ![0, 0] S3x2176.size (loads i x2 x3 x4 x5 x6 x7 x8 x9 x10 x11 x12 x14 x15 x16 x17).halo

/-- The states after the point. -/
def state1 : Vec F S16x64x128 .f32 := fun y =>
  (loads i x2 x3 x4 x5 x6 x7 x8 x9 x10 x11 x12 x14 x15 x16 x17).stNew (y 0) (ix3 (0 : Fin 1) (y 1) (y 2))

end Cert.KernelIdeal.Layer

end
-- ==== Proof.IdealLoads.lean ====
module

public import proofs.«01_k».proof.Proof.Gen.KernelIdeal.Frame
public import proofs.«01_k».proof.Proof.IdealChunk
public import Idealize.ShloMosaic.Lib.VecWindow
public import Idealize.ShloMosaic.Lib.Pipeline.Value

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- A load at a unit-stride rectangle reads a window of what the view reads. -/
theorem _root_.Idealize.ShloMosaic.View.readAt_unit_self {sig : RefSig} {κ : Kind} {sp : Space} {s : Shape} {e : EltTy} {Val : EltTy → Type}
    (v : View sig κ sp s e) (f : v.ty.Contents Val) {off size : Fin s.rank → ℕ} (inb : ∀ a, off a + size a ≤ s.size a) :
    v.readAt Val (Rect.unit off size inb).toLoadRect f = VecWindow.window (v.read Val f) off size inb := rfl

variable (c : Dev nD) (i : grid0.Coords)
variable (arg2 : Memref sig .tc .vmem S1x256x1024 .f32) (harg2 : arg2.IsWhole)
variable (arg3 : Memref sig .tc .vmem S4240x1024 .f32) (harg3 : arg3.IsWhole)
variable (arg4 : Memref sig .tc .vmem S4x2176 .f32) (harg4 : arg4.IsWhole)
variable (arg5 : Memref sig .tc .vmem S1x2176 .f32) (harg5 : arg5.IsWhole)
variable (arg6 : Memref sig .tc .vmem S1x16 .f32) (harg6 : arg6.IsWhole)
variable (arg7 : Memref sig .tc .vmem S16x1 .f32) (harg7 : arg7.IsWhole)
variable (arg8 : Memref sig .tc .vmem S1x16 .f32) (harg8 : arg8.IsWhole)
variable (arg9 : Memref sig .tc .vmem S16x1 .f32) (harg9 : arg9.IsWhole)
variable (arg10 : Memref sig .tc .vmem S1x2048 .f32) (harg10 : arg10.IsWhole)
variable (arg11 : Memref sig .tc .vmem S1x2048 .f32) (harg11 : arg11.IsWhole)
variable (arg12 : Memref sig .tc .vmem S1024x2048 .f32) (harg12 : arg12.IsWhole)
variable (arg13 : Memref sig .tc .vmem S1x256x1024 .f32) (harg13 : arg13.IsWhole)
variable (arg14 : Memref sig .tc .vmem S264x2176 .f32) (harg14 : arg14.IsWhole)
variable (arg15 : Memref sig .tc .vmem S16x64x128 .f32) (harg15 : arg15.IsWhole)
variable (arg16 : Memref sig .tc .vmem S4224x1024 .bf16) (harg16 : arg16.IsWhole)
variable (arg17 : Memref sig .tc .vmem S1024x2048 .bf16) (harg17 : arg17.IsWhole)
variable (x2 : Vec F S1x256x1024 .f32) (x3 : Vec F S4240x1024 .f32) (x4 : Vec F S4x2176 .f32) (x5 : Vec F S1x2176 .f32) (x6 : Vec F S1x16 .f32) (x7 : Vec F S16x1 .f32) (x8 : Vec F S1x16 .f32) (x9 : Vec F S16x1 .f32) (x10 : Vec F S1x2048 .f32) (x11 : Vec F S1x2048 .f32) (x12 : Vec F S1024x2048 .f32) (x14 : Vec F S264x2176 .f32) (x15 : Vec F S16x64x128 .f32) (x16 : Vec F S4224x1024 .bf16) (x17 : Vec F S1024x2048 .bf16)

/-! ## The scratch buffers' contents when the loads are made -/

/-- The convolution's buffer's contents. -/
def raw14 : arg14.view.ty.Contents (Elt F) :=
  if hc : atStart i then arg14.view.writes (Elt F) (harg14.unread x14)
    [⟨Rect.unit ![0, 0] S3x2176.size inb_S264x2176_S3x2176_0_0, k0_pay2⟩]
  else harg14.unread x14

/-- They read as `buf0`. -/
theorem read_raw14 : arg14.view.read (Elt F) (raw14 i arg14 harg14 x14) = buf0 i x14 := by
  unfold raw14 buf0
  split
  · rw [View.read_writes_cons_put (h := rfl), View.writes_nil, harg14.read_unread]
  · rw [harg14.read_unread]

/-- The states' contents. -/
def raw15 : arg15.view.ty.Contents (Elt F) :=
  if hc : atStart i then arg15.view.writes (Elt F) (harg15.unread x15)
    [⟨Rect.unit ![0, 0, 0] S16x64x128.size inb_S16x64x128_S16x64x128_0_0_0, k0_pay3⟩]
  else harg15.unread x15

/-- They read as `state0`. -/
theorem read_raw15 : arg15.view.read (Elt F) (raw15 i arg15 harg15 x15) = state0 i x15 := by
  unfold raw15 state0
  split
  · exact View.read_writes_full _ _ _ _ _
  · rw [harg15.read_unread]

/-- A block of 528 rows of the input weights, as the kernel keeps it. -/
def wblock (o : ℕ) (inb : ∀ a, (![o, 0] : Fin 2 → ℕ) a + S528x1024.size a ≤ S4240x1024.size a) : Vec F S528x1024 .bf16 :=
  k0_pay4 (View.readAt (Elt F) arg3.view (Rect.unit (s := S4240x1024) ![o, 0] S528x1024.size inb).toLoadRect (harg3.unread x3))

/-- The input weights' contents. -/
def raw16 : arg16.view.ty.Contents (Elt F) :=
  if hc : atStart i then arg16.view.writes (Elt F) (harg16.unread x16)
    [⟨Rect.unit ![3696, 0] S528x1024.size inb_S4224x1024_S528x1024_3696_0, wblock arg3 harg3 x3 3696 inb_S4240x1024_S528x1024_3696_0⟩,
      ⟨Rect.unit ![3168, 0] S528x1024.size inb_S4224x1024_S528x1024_3168_0, wblock arg3 harg3 x3 3168 inb_S4240x1024_S528x1024_3168_0⟩,
      ⟨Rect.unit ![2640, 0] S528x1024.size inb_S4224x1024_S528x1024_2640_0, wblock arg3 harg3 x3 2640 inb_S4240x1024_S528x1024_2640_0⟩,
      ⟨Rect.unit ![2112, 0] S528x1024.size inb_S4224x1024_S528x1024_2112_0, wblock arg3 harg3 x3 2112 inb_S4240x1024_S528x1024_2112_0⟩,
      ⟨Rect.unit ![1584, 0] S528x1024.size inb_S4224x1024_S528x1024_1584_0, wblock arg3 harg3 x3 1584 inb_S4240x1024_S528x1024_1584_0⟩,
      ⟨Rect.unit ![1056, 0] S528x1024.size inb_S4224x1024_S528x1024_1056_0, wblock arg3 harg3 x3 1056 inb_S4240x1024_S528x1024_1056_0⟩,
      ⟨Rect.unit ![528, 0] S528x1024.size inb_S4224x1024_S528x1024_528_0, wblock arg3 harg3 x3 528 inb_S4240x1024_S528x1024_528_0⟩,
      ⟨Rect.unit ![0, 0] S528x1024.size inb_S4224x1024_S528x1024_0_0, wblock arg3 harg3 x3 0 inb_S4240x1024_S528x1024_0_0⟩]
  else harg16.unread x16

/-- A stored block of the input weights agrees with the whole. -/
theorem wblock_apply (o : ℕ) (inb : ∀ a, (![o, 0] : Fin 2 → ℕ) a + S528x1024.size a ≤ S4240x1024.size a)
    (inb' : ∀ a, (![o, 0] : Fin 2 → ℕ) a + S528x1024.size a ≤ S4224x1024.size a) (x : S528x1024.Idx) :
    wblock arg3 harg3 x3 o inb x = (truncf .bf16 (fun y : S4224x1024.Idx => x3 (fun a => ⟨(y a).val, by
      have := (y a).isLt; match a with | 0 => exact lt_of_lt_of_le this (by show 4224 ≤ 4240; omega) | 1 => exact this⟩)) bitsLt_bf16_f32
        : FVec F S4224x1024 .bf16) ((Rect.unit (s := S4224x1024) ![o, 0] S528x1024.size inb').emb x) := by
  unfold wblock k0_pay4
  dsimp only
  rw [Idealize.ShloMosaic.shapeCast_self, View.readAt_unit (h := rfl) (inb' := inb), harg3.read_unread]
  rfl

/-- They read as `win0`. -/
theorem read_raw16 : arg16.view.read (Elt F) (raw16 i arg3 harg3 arg16 harg16 x3 x16) = win0 i x3 x16 := by
  unfold raw16 win0
  split
  · refine funext fun y => View.read_writes_apply_of_pieces  _ _ _ _ ?_ y (View.cover_of_tiledL (s := S4224x1024) _ S528x1024.size (by rfl) y)
    simp only [List.forall_mem_cons, List.not_mem_nil, false_imp_iff, implies_true, and_true]
    exact ⟨wblock_apply arg3 harg3 x3 3696 _ _, wblock_apply arg3 harg3 x3 3168 _ _, wblock_apply arg3 harg3 x3 2640 _ _, wblock_apply arg3 harg3 x3 2112 _ _, wblock_apply arg3 harg3 x3 1584 _ _, wblock_apply arg3 harg3 x3 1056 _ _, wblock_apply arg3 harg3 x3 528 _ _, wblock_apply arg3 harg3 x3 0 _ _⟩
  · rw [harg16.read_unread]

/-- A block of 512 rows of the output weights, as the kernel keeps it. -/
def woblock (o : ℕ) (inb : ∀ a, (![o, 0] : Fin 2 → ℕ) a + S512x2048.size a ≤ S1024x2048.size a) : Vec F S512x2048 .bf16 :=
  k0_pay12 (View.readAt (Elt F) arg12.view (Rect.unit (s := S1024x2048) ![o, 0] S512x2048.size inb).toLoadRect (harg12.unread x12))

/-- The output weights' contents. -/
def raw17 : arg17.view.ty.Contents (Elt F) :=
  if hc : atStart i then arg17.view.writes (Elt F) (harg17.unread x17)
    [⟨Rect.unit ![512, 0] S512x2048.size inb_S1024x2048_S512x2048_512_0, woblock arg12 harg12 x12 512 inb_S1024x2048_S512x2048_512_0⟩,
      ⟨Rect.unit ![0, 0] S512x2048.size inb_S1024x2048_S512x2048_0_0, woblock arg12 harg12 x12 0 inb_S1024x2048_S512x2048_0_0⟩]
  else harg17.unread x17

/-- A stored block of the output weights agrees with the whole. -/
theorem woblock_apply (o : ℕ) (inb : ∀ a, (![o, 0] : Fin 2 → ℕ) a + S512x2048.size a ≤ S1024x2048.size a) (x : S512x2048.Idx) :
    woblock arg12 harg12 x12 o inb x = (truncf .bf16 x12 bitsLt_bf16_f32 : FVec F S1024x2048 .bf16)
      ((Rect.unit (s := S1024x2048) ![o, 0] S512x2048.size inb).emb x) := by
  unfold woblock k0_pay12
  dsimp only
  rw [Idealize.ShloMosaic.shapeCast_self, View.readAt_unit (h := rfl) (inb' := inb), harg12.read_unread]
  rfl

/-- They read as `wout0`. -/
theorem read_raw17 : arg17.view.read (Elt F) (raw17 i arg12 harg12 arg17 harg17 x12 x17) = wout0 i x12 x17 := by
  unfold raw17 wout0
  split
  · refine funext fun y => View.read_writes_apply_of_pieces  _ _ _ _ ?_ y (View.cover_of_tiledL (s := S1024x2048) _ S512x2048.size (by rfl) y)
    simp only [List.forall_mem_cons, List.not_mem_nil, false_imp_iff, implies_true, and_true]
    exact ⟨woblock_apply arg12 harg12 x12 512 _, woblock_apply arg12 harg12 x12 0 _⟩
  · rw [harg17.read_unread]

/-! ## The loads, read off the contents -/

/-- The store of the chunk's rows into the convolution's buffer. -/
def rawRows : List (View.Piece (Elt F) S264x2176 .f32) :=
  [⟨Rect.unit ![3, 0] S256x2176.size inb_S264x2176_S256x2176_3_0, k0_pay19 (View.readAt (Elt F) arg2.view (Rect.unit (s := S1x256x1024) ![0, 0, 0] S1x256x1024.size inb_S1x256x1024_S1x256x1024_0_0_0).toLoadRect (harg2.unread x2)) (View.readAt (Elt F) arg16.view (Rect.unit (s := S4224x1024) ![2048, 0] S2176x1024.size inb_S4224x1024_S2176x1024_2048_0).toLoadRect (raw16 i arg3 harg3 arg16 harg16 x3 x16))⟩]

/-- The loads of a grid point as the contents give them. -/
def rawLoads : Loads F where
  v3 := View.readAt (Elt F) arg2.view (Rect.unit (s := S1x256x1024) ![0, 0, 0] S1x256x1024.size inb_S1x256x1024_S1x256x1024_0_0_0).toLoadRect (harg2.unread x2)
  v6 := View.readAt (Elt F) arg16.view (Rect.unit (s := S4224x1024) ![0, 0] S2048x1024.size inb_S4224x1024_S2048x1024_0_0).toLoadRect (raw16 i arg3 harg3 arg16 harg16 x3 x16)
  v8 := View.readAt (Elt F) arg16.view (Rect.unit (s := S4224x1024) ![2048, 0] S2176x1024.size inb_S4224x1024_S2176x1024_2048_0).toLoadRect (raw16 i arg3 harg3 arg16 harg16 x3 x16)
  v10 := View.readAt (Elt F) arg3.view (Rect.unit (s := S4240x1024) ![4224, 0] S16x1024.size inb_S4240x1024_S16x1024_4224_0).toLoadRect (harg3.unread x3)
  v16 := View.readAt (Elt F) arg4.view (Rect.unit (s := S4x2176) ![0, 0] S1x2176.size inb_S4x2176_S1x2176_0_0).toLoadRect (harg4.unread x4)
  v18 := View.readAt (Elt F) arg14.view (Rect.unit (s := S264x2176) ![0, 0] S256x2176.size inb_S264x2176_S256x2176_0_0).toLoadRect (arg14.view.writes (Elt F) (raw14 i arg14 harg14 x14) (rawRows i arg2 harg2 arg3 harg3 arg16 harg16 x2 x3 x16))
  v21 := View.readAt (Elt F) arg4.view (Rect.unit (s := S4x2176) ![1, 0] S1x2176.size inb_S4x2176_S1x2176_1_0).toLoadRect (harg4.unread x4)
  v23 := View.readAt (Elt F) arg14.view (Rect.unit (s := S264x2176) ![1, 0] S256x2176.size inb_S264x2176_S256x2176_1_0).toLoadRect (arg14.view.writes (Elt F) (raw14 i arg14 harg14 x14) (rawRows i arg2 harg2 arg3 harg3 arg16 harg16 x2 x3 x16))
  v27 := View.readAt (Elt F) arg4.view (Rect.unit (s := S4x2176) ![2, 0] S1x2176.size inb_S4x2176_S1x2176_2_0).toLoadRect (harg4.unread x4)
  v29 := View.readAt (Elt F) arg14.view (Rect.unit (s := S264x2176) ![2, 0] S256x2176.size inb_S264x2176_S256x2176_2_0).toLoadRect (arg14.view.writes (Elt F) (raw14 i arg14 harg14 x14) (rawRows i arg2 harg2 arg3 harg3 arg16 harg16 x2 x3 x16))
  v33 := View.readAt (Elt F) arg4.view (Rect.unit (s := S4x2176) ![3, 0] S1x2176.size inb_S4x2176_S1x2176_3_0).toLoadRect (harg4.unread x4)
  v35 := arg14.view.readCov (rawRows i arg2 harg2 arg3 harg3 arg16 harg16 x2 x3 x16) (Rect.unit (s := S264x2176) ![3, 0] S256x2176.size inb_S264x2176_S256x2176_3_0).toLoadRect
  v39 := View.readAt (Elt F) arg5.view (Rect.unit (s := S1x2176) ![0, 0] S1x2176.size inb_S1x2176_S1x2176_0_0).toLoadRect (harg5.unread x5)
  v43 := arg14.view.readCov (rawRows i arg2 harg2 arg3 harg3 arg16 harg16 x2 x3 x16) (Rect.unit (s := S264x2176) ![256, 0] S3x2176.size inb_S264x2176_S3x2176_256_0).toLoadRect
  v52 := View.readAt (Elt F) arg6.view (Rect.unit (s := S1x16) ![0, 0] S1x16.size inb_S1x16_S1x16_0_0).toLoadRect (harg6.unread x6)
  v64 := View.readAt (Elt F) arg7.view (Rect.unit (s := S16x1) ![0, 0] S16x1.size inb_S16x1_S16x1_0_0).toLoadRect (harg7.unread x7)
  v76 := View.readAt (Elt F) arg8.view (Rect.unit (s := S1x16) ![0, 0] S1x16.size inb_S1x16_S1x16_0_0).toLoadRect (harg8.unread x8)
  v80 := View.readAt (Elt F) arg9.view (Rect.unit (s := S16x1) ![0, 0] S16x1.size inb_S16x1_S16x1_0_0).toLoadRect (harg9.unread x9)
  st h := View.readAt (Elt F) arg15.view (Rect.unit (s := S16x64x128) ![h.val, 0, 0] S1x64x128.size (inb_head h)).toLoadRect (raw15 i arg15 harg15 x15)
  v623 := View.readAt (Elt F) arg10.view (Rect.unit (s := S1x2048) ![0, 0] S1x2048.size inb_S1x2048_S1x2048_0_0).toLoadRect (harg10.unread x10)
  v641 := View.readAt (Elt F) arg11.view (Rect.unit (s := S1x2048) ![0, 0] S1x2048.size inb_S1x2048_S1x2048_0_0).toLoadRect (harg11.unread x11)
  v646 := View.readAt (Elt F) arg17.view (Rect.unit (s := S1024x2048) ![0, 0] S1024x2048.size inb_S1024x2048_S1024x2048_0_0).toLoadRect (raw17 i arg12 harg12 arg17 harg17 x12 x17)

/-- The buffer with the chunk's rows reads as `buf1`. -/
theorem read_rows : arg14.view.read (Elt F) (arg14.view.writes (Elt F) (raw14 i arg14 harg14 x14) (rawRows i arg2 harg2 arg3 harg3 arg16 harg16 x2 x3 x16)) = buf1 i x2 x3 x14 x16 := by
  unfold rawRows buf1
  rw [View.read_writes_cons_put (h := rfl), View.writes_nil, read_raw14, View.readAt_full, harg2.read_unread,
    View.readAt_unit (h := rfl) (inb' := inb_S4224x1024_S2176x1024_2048_0), read_raw16]

include harg14 in
/-- A load of the stored rows reads `buf1`. -/
theorem readCov_rows {off size : Fin 2 → ℕ} (inb : ∀ a, off a + size a ≤ S264x2176.size a)
    (h : ∀ a, (![3, 0] : Fin 2 → ℕ) a ≤ off a ∧ off a + size a ≤ (![3, 0] : Fin 2 → ℕ) a + S256x2176.size a) :
    arg14.view.readCov (rawRows i arg2 harg2 arg3 harg3 arg16 harg16 x2 x3 x16) (Rect.unit (s := S264x2176) off size inb).toLoadRect = VecWindow.window (buf1 i x2 x3 x14 x16) off size inb := by
  unfold View.readCov
  rw [← read_rows i arg2 harg2 arg3 harg3 arg14 harg14 arg16 harg16 x2 x3 x14 x16, View.readAt_unit (h := rfl) (inb' := inb)]
  unfold rawRows
  rw [View.read_writes_cons_put (h := rfl), View.read_writes_cons_put (h := rfl),
    VecWindow.window_put_of_inside (h := h), VecWindow.window_put_of_inside (h := h)]

set_option maxHeartbeats 4000000 in
/-- The loads are those of what the operands and the scratch buffers hold. -/
theorem rawLoads_eq : rawLoads i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 = loads i x2 x3 x4 x5 x6 x7 x8 x9 x10 x11 x12 x14 x15 x16 x17 := by
  unfold rawLoads loads
  simp only [Loads.mk.injEq]
  exact ⟨(View.readAt_full _ _ _).trans (harg2.read_unread _),
    (View.readAt_unit_self _ _ _).trans (congrArg (fun v => VecWindow.window v _ _ _) (read_raw16 i arg3 harg3 arg16 harg16 x3 x16)),
    (View.readAt_unit_self _ _ _).trans (congrArg (fun v => VecWindow.window v _ _ _) (read_raw16 i arg3 harg3 arg16 harg16 x3 x16)),
    (View.readAt_unit_self _ _ _).trans (congrArg (fun v => VecWindow.window v _ _ _) (harg3.read_unread _)),
    (View.readAt_unit_self _ _ _).trans (congrArg (fun v => VecWindow.window v _ _ _) (harg4.read_unread _)),
    (View.readAt_unit_self _ _ _).trans (congrArg (fun v => VecWindow.window v _ _ _) (read_rows i arg2 harg2 arg3 harg3 arg14 harg14 arg16 harg16 x2 x3 x14 x16)),
    (View.readAt_unit_self _ _ _).trans (congrArg (fun v => VecWindow.window v _ _ _) (harg4.read_unread _)),
    (View.readAt_unit_self _ _ _).trans (congrArg (fun v => VecWindow.window v _ _ _) (read_rows i arg2 harg2 arg3 harg3 arg14 harg14 arg16 harg16 x2 x3 x14 x16)),
    (View.readAt_unit_self _ _ _).trans (congrArg (fun v => VecWindow.window v _ _ _) (harg4.read_unread _)),
    (View.readAt_unit_self _ _ _).trans (congrArg (fun v => VecWindow.window v _ _ _) (read_rows i arg2 harg2 arg3 harg3 arg14 harg14 arg16 harg16 x2 x3 x14 x16)),
    (View.readAt_unit_self _ _ _).trans (congrArg (fun v => VecWindow.window v _ _ _) (harg4.read_unread _)),
    readCov_rows i arg2 harg2 arg3 harg3 arg14 harg14 arg16 harg16 x2 x3 x14 x16 _ (by decide),
    (View.readAt_full _ _ _).trans (harg5.read_unread _),
    readCov_rows i arg2 harg2 arg3 harg3 arg14 harg14 arg16 harg16 x2 x3 x14 x16 _ (by decide),
    (View.readAt_full _ _ _).trans (harg6.read_unread _),
    (View.readAt_full _ _ _).trans (harg7.read_unread _),
    (View.readAt_full _ _ _).trans (harg8.read_unread _),
    (View.readAt_full _ _ _).trans (harg9.read_unread _),
    funext fun h => (View.readAt_unit_self _ _ _).trans (congrArg (fun v => VecWindow.window v _ _ _) (read_raw15 i arg15 harg15 x15)),
    (View.readAt_full _ _ _).trans (harg10.read_unread _),
    (View.readAt_full _ _ _).trans (harg11.read_unread _),
    (View.readAt_full _ _ _).trans (read_raw17 i arg12 harg12 arg17 harg17 x12 x17)⟩

end Cert.KernelIdeal.Layer

end
-- ==== Proof.IdealBody.lean ====
module

public import proofs.«01_k».proof.Proof.Gen.KernelIdeal.Frame
public import proofs.«01_k».proof.Proof.IdealLoads
public import Idealize.ShloMosaic.Lib.VecWindow
public import Idealize.ShloMosaic.Lib.Pipeline.Value

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (c : Dev nD) (i : grid0.Coords)
variable (arg2 : Memref sig .tc .vmem S1x256x1024 .f32) (harg2 : arg2.IsWhole)
variable (arg3 : Memref sig .tc .vmem S4240x1024 .f32) (harg3 : arg3.IsWhole)
variable (arg4 : Memref sig .tc .vmem S4x2176 .f32) (harg4 : arg4.IsWhole)
variable (arg5 : Memref sig .tc .vmem S1x2176 .f32) (harg5 : arg5.IsWhole)
variable (arg6 : Memref sig .tc .vmem S1x16 .f32) (harg6 : arg6.IsWhole)
variable (arg7 : Memref sig .tc .vmem S16x1 .f32) (harg7 : arg7.IsWhole)
variable (arg8 : Memref sig .tc .vmem S1x16 .f32) (harg8 : arg8.IsWhole)
variable (arg9 : Memref sig .tc .vmem S16x1 .f32) (harg9 : arg9.IsWhole)
variable (arg10 : Memref sig .tc .vmem S1x2048 .f32) (harg10 : arg10.IsWhole)
variable (arg11 : Memref sig .tc .vmem S1x2048 .f32) (harg11 : arg11.IsWhole)
variable (arg12 : Memref sig .tc .vmem S1024x2048 .f32) (harg12 : arg12.IsWhole)
variable (arg13 : Memref sig .tc .vmem S1x256x1024 .f32) (harg13 : arg13.IsWhole)
variable (arg14 : Memref sig .tc .vmem S264x2176 .f32) (harg14 : arg14.IsWhole)
variable (arg15 : Memref sig .tc .vmem S16x64x128 .f32) (harg15 : arg15.IsWhole)
variable (arg16 : Memref sig .tc .vmem S4224x1024 .bf16) (harg16 : arg16.IsWhole)
variable (arg17 : Memref sig .tc .vmem S1024x2048 .bf16) (harg17 : arg17.IsWhole)
variable (x2 : Vec F S1x256x1024 .f32) (x3 : Vec F S4240x1024 .f32) (x4 : Vec F S4x2176 .f32) (x5 : Vec F S1x2176 .f32) (x6 : Vec F S1x16 .f32) (x7 : Vec F S16x1 .f32) (x8 : Vec F S1x16 .f32) (x9 : Vec F S16x1 .f32) (x10 : Vec F S1x2048 .f32) (x11 : Vec F S1x2048 .f32) (x12 : Vec F S1024x2048 .f32) (x14 : Vec F S264x2176 .f32) (x15 : Vec F S16x64x128 .f32) (x16 : Vec F S4224x1024 .bf16) (x17 : Vec F S1024x2048 .bf16)

/-- What a grid point stores of head `h`'s state is that plane of the states after the point. -/
theorem stored_head (h : Fin 16) (x : S1x64x128.Idx) :
    (rawLoads i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17).stNew h x = state1 i x2 x3 x4 x5 x6 x7 x8 x9 x10 x11 x12 x14 x15 x16 x17 ((Rect.unit (s := S16x64x128) ![h.val, 0, 0] S1x64x128.size (inb_head h)).emb x) := by
  rw [rawLoads_eq i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17]
  unfold state1
  have h0 : ((Rect.unit (s := S16x64x128) ![h.val, 0, 0] S1x64x128.size (inb_head h)).emb x) 0 = h :=
    Fin.ext (by show h.val + 1 * (x 0).val = h.val; have := (x 0).isLt; change _ < 1 at this; omega)
  rw [h0]
  refine congrArg _ (funext fun a => Fin.ext ?_)
  match a with
  | 0 => have := (x 0).isLt; change _ < 1 at this; show (x 0).val = 0; omega
  | 1 => show (x 1).val = 0 + 1 * (x 1).val; omega
  | 2 => show (x 2).val = 0 + 1 * (x 2).val; omega

set_option maxHeartbeats 8000000 in
/-- The body at a grid point, run on whole buffers: the operands keep their contents, the result block and the four
    scratch buffers end at what the point's loads make of them. -/
theorem body_run (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (loads i x2 x3 x4 x5 x6 x7 x8 x9 x10 x11 x12 x14 x15 x16 x17).out ∗ owns (c : Thread nD τ) arg14 fullShare (buf2 i x2 x3 x4 x5 x6 x7 x8 x9 x10 x11 x12 x14 x15 x16 x17) ∗ owns (c : Thread nD τ) arg15 fullShare (state1 i x2 x3 x4 x5 x6 x7 x8 x9 x10 x11 x12 x14 x15 x16 x17) ∗ owns (c : Thread nD τ) arg16 fullShare (win0 i x3 x16) ∗ owns (c : Thread nD τ) arg17 fullShare (wout0 i x12 x17)) -∗ K ⟨⟩))
      ⊢ wp frame (wpE (defs₀ (F := F)) Variants.none c none) E (cc0__mamba_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__mamba_kernel_eq_skeleton]; unfold cc0__mamba_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%f16, %hf16, H16⟩, ⟨%f17, %hf17, H17⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg14.eq_unread hf14; obtain rfl := harg15.eq_unread hf15; obtain rfl := harg16.eq_unread hf16; obtain rfl := harg17.eq_unread hf17
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    refine (View.read_writes_full _ _ _ _ _).trans ?_
    rw [← rawLoads_eq i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17]
    rfl
  isplitl [H14]
  · iexists _; isplitr; swap; · iexact H14
    ipureintro
    refine Eq.trans (b := arg14.view.read (Elt F) (arg14.view.writes (Elt F) (raw14 i arg14 harg14 x14) (⟨Rect.unit ![0, 0] S3x2176.size inb_S264x2176_S3x2176_0_0, (rawLoads i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17).halo⟩ :: rawRows i arg2 harg2 arg3 harg3 arg16 harg16 x2 x3 x16))) rfl ?_
    unfold buf2
    rw [View.read_writes_cons_put (h := rfl), read_rows, rawLoads_eq i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17]
  isplitl [H15]
  · iexists _; isplitr; swap; · iexact H15
    ipureintro
    refine funext fun y => View.read_writes_apply_of_pieces (s := S16x64x128) _ _ _ _ ?_ y (View.cover_of_tiledL (s := S16x64x128) _ S1x64x128.size (by rfl) y)
    simp only [List.forall_mem_cons, List.not_mem_nil, false_imp_iff, implies_true, and_true]
    exact ⟨stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 15, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 14, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 13, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 12, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 11, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 10, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 9, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 8, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 7, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 6, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 5, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 4, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 3, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 2, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 1, stored_head i arg2 harg2 arg3 harg3 arg4 harg4 arg5 harg5 arg6 harg6 arg7 harg7 arg8 harg8 arg9 harg9 arg10 harg10 arg11 harg11 arg12 harg12 arg14 harg14 arg15 harg15 arg16 harg16 arg17 harg17 x2 x3 x4 x5 x6 x7 x8 x9 x10 x11 x12 x14 x15 x16 x17 0⟩
  isplitl [H16]
  · iexists _; isplitr; swap; · iexact H16
    ipureintro
    exact read_raw16 i arg3 harg3 arg16 harg16 x3 x16
  iexists _; isplitr; swap; · iexact H17
  ipureintro
  exact read_raw17 i arg12 harg12 arg17 harg17 x12 x17

end Cert.KernelIdeal.Layer

end
-- ==== Proof.IdealScratch.lean ====
module

public import proofs.«01_k».proof.Proof.Gen.KernelIdeal.Frame
public import proofs.«01_k».proof.Proof.IdealChunk
public import Idealize.ShloMosaic.Lib.VecWindow

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The four scratch buffers' contents. -/
structure Scr (F : FTy → Type) where
  x14 : Vec F S264x2176 .f32
  x15 : Vec F S16x64x128 .f32
  x16 : Vec F S4224x1024 .bf16
  x17 : Vec F S1024x2048 .bf16

variable (i : grid0.Coords)
variable (x2 : Vec F S1x256x1024 .f32) (x3 : Vec F S4240x1024 .f32) (x4 : Vec F S4x2176 .f32) (x5 : Vec F S1x2176 .f32) (x6 : Vec F S1x16 .f32) (x7 : Vec F S16x1 .f32) (x8 : Vec F S1x16 .f32) (x9 : Vec F S16x1 .f32) (x10 : Vec F S1x2048 .f32) (x11 : Vec F S1x2048 .f32) (x12 : Vec F S1024x2048 .f32)

/-- Two contents of the scratch buffers from which a point's loads are the same. -/
def SameStart (s s' : Scr F) : Prop :=
  (∀ y : S264x2176.Idx, (y 0).val < 3 → buf0 i s.x14 y = buf0 i s'.x14 y) ∧ state0 i s.x15 = state0 i s'.x15
    ∧ win0 i x3 s.x16 = win0 i x3 s'.x16 ∧ wout0 i x12 s.x17 = wout0 i x12 s'.x17

/-- Two contents of the scratch buffers that agree where a later point reads them. -/
def Agree (s s' : Scr F) : Prop :=
  (∀ y : S264x2176.Idx, (y 0).val < 3 → s.x14 y = s'.x14 y) ∧ s.x15 = s'.x15 ∧ s.x16 = s'.x16 ∧ s.x17 = s'.x17

variable {i} {x3} {x12} in
/-- Contents that agree give the same start. -/
theorem Agree.sameStart {s s' : Scr F} (h : Agree s s') : SameStart i x3 x12 s s' := by
  obtain ⟨h1, h2, h3, h4⟩ := h
  refine ⟨fun y hy => ?_, by rw [h2], by rw [h3], by rw [h4]⟩
  unfold buf0 VecWindow.put
  split
  · dsimp only
    split
    · rfl
    · exact h1 y hy
  · exact h1 y hy

variable {i} {x3} {x12} in
/-- At a sequence's first point every two contents give the same start. -/
theorem sameStart_of_atStart (hc : atStart i) (s s' : Scr F) : SameStart i x3 x12 s s' := by
  unfold SameStart buf0 state0 win0 wout0
  simp only [if_pos hc, and_true]
  intro y hy
  unfold VecWindow.put
  have h : ∀ a, (![0, 0] : Fin 2 → ℕ) a ≤ (y a).val ∧ (y a).val < (![0, 0] : Fin 2 → ℕ) a + S3x2176.size a := fun a => by
    have h1 := (y 1).isLt
    match a with
    | 0 => exact ⟨Nat.zero_le _, by show (y 0).val < 0 + 3; omega⟩
    | 1 => exact ⟨Nat.zero_le _, by change (y 1).val < 2176 at h1; show (y 1).val < 0 + 2176; omega⟩
  rw [dif_pos h, dif_pos h]

/-- The convolution's buffer agrees on the rows that a point reads. -/
theorem buf1_congr {s s' : Scr F} (h : SameStart i x3 x12 s s') (y : S264x2176.Idx) (hy : (y 0).val < 259) :
    buf1 i x2 x3 s.x14 s.x16 y = buf1 i x2 x3 s'.x14 s'.x16 y := by
  obtain ⟨h1, h2, h3, h4⟩ := h
  unfold buf1
  rw [h3]
  unfold VecWindow.put
  split
  · rfl
  · rename_i hn
    refine h1 y (Nat.lt_of_not_le fun h3 => hn fun a => ?_)
    match a with
    | 0 => exact ⟨h3, by show (y 0).val < 3 + 256; omega⟩
    | 1 => exact ⟨Nat.zero_le _, by have h1 := (y 1).isLt; change (y 1).val < 2176 at h1; show (y 1).val < 0 + 2176; omega⟩

/-- A window of the convolution's buffer within those rows agrees. -/
theorem window_buf1_congr {s s' : Scr F} (h : SameStart i x3 x12 s s') (o n : ℕ) (ho : o + n ≤ 259)
    (inb : ∀ a, (![o, 0] : Fin 2 → ℕ) a + (![n, 2176] : Fin 2 → ℕ) a ≤ S264x2176.size a) :
    VecWindow.window (buf1 i x2 x3 s.x14 s.x16) ![o, 0] ![n, 2176] inb
      = VecWindow.window (buf1 i x2 x3 s'.x14 s'.x16) ![o, 0] ![n, 2176] inb :=
  funext fun y => buf1_congr i x2 x3 x12 h _ (by
    have h0 := (y 0).isLt; change (y 0).val < n at h0; show o + 1 * (y 0).val < 259; omega)

/-- From the same start the loads are the same. -/
theorem loads_congr {s s' : Scr F} (h : SameStart i x3 x12 s s') :
    loads i x2 x3 x4 x5 x6 x7 x8 x9 x10 x11 x12 s.x14 s.x15 s.x16 s.x17 = loads i x2 x3 x4 x5 x6 x7 x8 x9 x10 x11 x12 s'.x14 s'.x15 s'.x16 s'.x17 := by
  have w : ∀ (o n : ℕ) (ho : o + n ≤ 259) inb, VecWindow.window (buf1 i x2 x3 s.x14 s.x16) ![o, 0] ![n, 2176] inb
      = VecWindow.window (buf1 i x2 x3 s'.x14 s'.x16) ![o, 0] ![n, 2176] inb := fun o n ho inb => window_buf1_congr i x2 x3 x12 h o n ho inb
  unfold loads
  simp only [Loads.mk.injEq, true_and]
  exact ⟨by rw [h.2.2.1], by rw [h.2.2.1], w 0 256 (by decide) _, w 1 256 (by decide) _, w 2 256 (by decide) _,
    w 3 256 (by decide) _, w 256 3 (by decide) _, by rw [h.2.1], h.2.2.2⟩

/-- The scratch buffers after a point. -/
def next (s : Scr F) : Scr F where
  x14 := buf2 i x2 x3 x4 x5 x6 x7 x8 x9 x10 x11 x12 s.x14 s.x15 s.x16 s.x17
  x15 := state1 i x2 x3 x4 x5 x6 x7 x8 x9 x10 x11 x12 s.x14 s.x15 s.x16 s.x17
  x16 := win0 i x3 s.x16
  x17 := wout0 i x12 s.x17

/-- From the same start a point leaves contents that agree. -/
theorem next_agree {s s' : Scr F} (h : SameStart i x3 x12 s s') : Agree (next i x2 x3 x4 x5 x6 x7 x8 x9 x10 x11 x12 s) (next i x2 x3 x4 x5 x6 x7 x8 x9 x10 x11 x12 s') := by
  have hl := loads_congr i x2 x3 x4 x5 x6 x7 x8 x9 x10 x11 x12 h
  refine ⟨fun y hy => ?_, ?_, h.2.2.1, h.2.2.2⟩
  · have hm : ∀ a, (![0, 0] : Fin 2 → ℕ) a ≤ (y a).val ∧ (y a).val < (![0, 0] : Fin 2 → ℕ) a + S3x2176.size a := fun a => by
      have h1 := (y 1).isLt
      match a with
      | 0 => exact ⟨Nat.zero_le _, by show (y 0).val < 0 + 3; omega⟩
      | 1 => exact ⟨Nat.zero_le _, by change (y 1).val < 2176 at h1; show (y 1).val < 0 + 2176; omega⟩
    show buf2 i x2 x3 x4 x5 x6 x7 x8 x9 x10 x11 x12 s.x14 s.x15 s.x16 s.x17 y = buf2 i x2 x3 x4 x5 x6 x7 x8 x9 x10 x11 x12 s'.x14 s'.x15 s'.x16 s'.x17 y
    unfold buf2 VecWindow.put
    rw [dif_pos hm, dif_pos hm, hl]
  · show state1 i x2 x3 x4 x5 x6 x7 x8 x9 x10 x11 x12 s.x14 s.x15 s.x16 s.x17 = state1 i x2 x3 x4 x5 x6 x7 x8 x9 x10 x11 x12 s'.x14 s'.x15 s'.x16 s'.x17
    unfold state1
    rw [hl]

/-! ## The launch's points, one after the other -/

variable (m : (ℓ : Loc nD τ sig) → Buf (Elt F) ℓ)

/-- The loads of point `t` from the scratch contents `s`. -/
def pointLoads (c : Dev nD) (t : Fin cfg0.N) (s : Scr F) : Loads F :=
  loads (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) s.x14 s.x15 s.x16 s.x17

/-- The scratch buffers after point `t`. -/
def pointNext (c : Dev nD) (t : Fin cfg0.N) (s : Scr F) : Scr F :=
  next (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) s

/-- Contents to start from, never read: the first point fills what it reads. -/
def scr0 : Scr F where
  x14 := broadcast S264x2176 (Scalar.ofBits .f32 0x00000000#32)
  x15 := broadcast S16x64x128 (Scalar.ofBits .f32 0x00000000#32)
  x16 := truncf .bf16 (broadcast S4224x1024 (Scalar.ofBits .f32 0x00000000#32) : FVec F S4224x1024 .f32) bitsLt_bf16_f32
  x17 := truncf .bf16 (broadcast S1024x2048 (Scalar.ofBits .f32 0x00000000#32) : FVec F S1024x2048 .f32) bitsLt_bf16_f32

/-- The scratch buffers before point `n`. -/
def scrAt (c : Dev nD) : ℕ → Scr F
  | 0 => scr0
  | n + 1 => if h : n < cfg0.N then pointNext m c ⟨n, h⟩ (scrAt c n) else scrAt c n

/-- One point on. -/
theorem scrAt_succ (c : Dev nD) (t : Fin cfg0.N) : scrAt m c (t.val + 1) = pointNext m c t (scrAt m c t.val) := by
  show (if h : t.val < cfg0.N then _ else _) = _
  rw [dif_pos t.isLt]

/-- The result's block at point `t`. -/
def pointOut (c : Dev nD) (t : Fin cfg0.N) : Vec F S1x256x1024 .f32 := (pointLoads m c t (scrAt m c t.val)).out

/-- From the same start the result's block is the same. -/
theorem pointOut_of_same (c : Dev nD) (t : Fin cfg0.N) {s : Scr F} (h : SameStart (grid0.coords t) (iblk m c 1 t) (iblk m c 10 t) s (scrAt m c t.val)) :
    pointOut m c t = (pointLoads m c t s).out := by
  unfold pointOut pointLoads
  rw [loads_congr (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) h]

end Cert.KernelIdeal.Layer

end
-- ==== Proof.IdealFrame.lean ====
module

public import proofs.«01_k».proof.Proof.Gen.KernelIdeal.Frame
public import proofs.«01_k».proof.Proof.IdealBody
public import proofs.«01_k».proof.Proof.IdealScratch
public import proofs.«01_k».proof.Proof.Gen.KernelIdeal.Points
public import proofs.«01_k».proof.Proof.Gen.KernelIdeal.Launch
public import Idealize.ShloMosaic.Lib.Pipeline.FrameBody
public import Idealize.ShloMosaic.Lib.Claim
@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch hands the body besides its windows: the four scratch buffers at some contents, and the
    generator register at some state. -/
theorem scratch_owned (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- What the launch knows before point `n`: the scratch buffers hold contents that agree with `scrAt`, of the first
    point's nothing is known, and the generator register is at some state. -/
def inv (c : Dev nD) (n : ℕ) : sProp 𝕄 :=
  iprop((∃ s : Scr F, ⌜n ≠ 0 → Agree s (scrAt m c n)⌝ ∗ owns (c : Thread nD τ) (Memref.whole cc0_scratch0) fullShare s.x14
      ∗ owns (c : Thread nD τ) (Memref.whole cc0_scratch1) fullShare s.x15
      ∗ owns (c : Thread nD τ) (Memref.whole cc0_scratch2) fullShare s.x16
      ∗ owns (c : Thread nD τ) (Memref.whole cc0_scratch3) fullShare s.x17) ∗ (∃ r, prngReg c r))

/-- What the launch hands over is the invariant before the first point. -/
theorem inv_in (c : Dev nD) : Pipeline.ΦA spec0 c ⊢ inv m c 0 := by
  rw [scratch_owned]
  unfold inv
  iintro ⟨⟨⟨%d0, S0⟩, ⟨%d1, S1⟩, ⟨%d2, S2⟩, ⟨%d3, S3⟩⟩, Hg⟩
  isplitl [S0 S1 S2 S3]
  · iexists (⟨d0, d1, d2, d3⟩ : Scr F)
    isplitr; · ipureintro; exact fun h => absurd rfl h
    isplitl [S0]; · iexact S0
    isplitl [S1]; · iexact S1
    isplitl [S2]; · iexact S2
    iexact S3
  iexact Hg

/-- The invariant gives back what the launch handed over. -/
theorem inv_out (c : Dev nD) (n : ℕ) : inv m c n ⊢ Pipeline.ΦA spec0 c := by
  rw [scratch_owned]
  unfold inv
  iintro ⟨⟨%s, -, S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

/-- Whatever agrees with `scrAt` before point `t` starts the point as it does; before the first point anything does. -/
theorem start_same (c : Dev nD) (t : Fin cfg0.N) (s : Scr F) (h : t.val ≠ 0 → Agree s (scrAt m c t.val)) :
    SameStart (grid0.coords t) (iblk m c 1 t) (iblk m c 10 t) s (scrAt m c t.val) := by
  by_cases h0 : t.val = 0
  · obtain rfl : t = ⟨0, by decide⟩ := Fin.ext h0
    exact sameStart_of_atStart (by decide) _ _
  · exact (h h0).sameStart

/-- The launch's proof data: each operand's window keeps its block, the result's block and the scratch are
    what the points' loads make of them. -/
def dats (_ : Fin 1) (c : Dev nD) : Dat τ (Elt F) Unit ℕ (UR sig nD τ) ℕ cfg0 c where
  A w := V m c (Pipeline.arrRef spec0 w)
  after
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => iblk m c 8 t
    | 9 => fun t => iblk m c 9 t
    | 10 => fun t => iblk m c 10 t
    | 11 => fun t => pointOut m c t
  Φ t := inv m c t.val
  q _ := fullShare
  owed _ := 0

/-- The data's arrays are what the region finds. -/
theorem dats_array (c : Dev nD) (w : Fin cfg0.W) : (dats m 0 c).A w = V m c (Pipeline.arrRef spec0 w) := by
  dsimp only [dats]

/-- Window 0 holds its block before the body at every point. -/
theorem before_0 (c : Dev nD) (t : Fin cfg0.N) (d) : (dats m 0 c).before 0 t d = iblk m c 0 t :=
  before0_0_of m (dats m 0 c) (dats_array m c 0) (fun _ => by dsimp only [dats]) t d
/-- Window 1 holds its block before the body at every point. -/
theorem before_1 (c : Dev nD) (t : Fin cfg0.N) (d) : (dats m 0 c).before 1 t d = iblk m c 1 t :=
  before0_1_of m (dats m 0 c) (dats_array m c 1) (fun _ => by dsimp only [dats]) t d
/-- Window 2 holds its block before the body at every point. -/
theorem before_2 (c : Dev nD) (t : Fin cfg0.N) (d) : (dats m 0 c).before 2 t d = iblk m c 2 t :=
  before0_2_of m (dats m 0 c) (dats_array m c 2) (fun _ => by dsimp only [dats]) t d
/-- Window 3 holds its block before the body at every point. -/
theorem before_3 (c : Dev nD) (t : Fin cfg0.N) (d) : (dats m 0 c).before 3 t d = iblk m c 3 t :=
  before0_3_of m (dats m 0 c) (dats_array m c 3) (fun _ => by dsimp only [dats]) t d
/-- Window 4 holds its block before the body at every point. -/
theorem before_4 (c : Dev nD) (t : Fin cfg0.N) (d) : (dats m 0 c).before 4 t d = iblk m c 4 t :=
  before0_4_of m (dats m 0 c) (dats_array m c 4) (fun _ => by dsimp only [dats]) t d
/-- Window 5 holds its block before the body at every point. -/
theorem before_5 (c : Dev nD) (t : Fin cfg0.N) (d) : (dats m 0 c).before 5 t d = iblk m c 5 t :=
  before0_5_of m (dats m 0 c) (dats_array m c 5) (fun _ => by dsimp only [dats]) t d
/-- Window 6 holds its block before the body at every point. -/
theorem before_6 (c : Dev nD) (t : Fin cfg0.N) (d) : (dats m 0 c).before 6 t d = iblk m c 6 t :=
  before0_6_of m (dats m 0 c) (dats_array m c 6) (fun _ => by dsimp only [dats]) t d
/-- Window 7 holds its block before the body at every point. -/
theorem before_7 (c : Dev nD) (t : Fin cfg0.N) (d) : (dats m 0 c).before 7 t d = iblk m c 7 t :=
  before0_7_of m (dats m 0 c) (dats_array m c 7) (fun _ => by dsimp only [dats]) t d
/-- Window 8 holds its block before the body at every point. -/
theorem before_8 (c : Dev nD) (t : Fin cfg0.N) (d) : (dats m 0 c).before 8 t d = iblk m c 8 t :=
  before0_8_of m (dats m 0 c) (dats_array m c 8) (fun _ => by dsimp only [dats]) t d
/-- Window 9 holds its block before the body at every point. -/
theorem before_9 (c : Dev nD) (t : Fin cfg0.N) (d) : (dats m 0 c).before 9 t d = iblk m c 9 t :=
  before0_9_of m (dats m 0 c) (dats_array m c 9) (fun _ => by dsimp only [dats]) t d
/-- Window 10 holds its block before the body at every point. -/
theorem before_10 (c : Dev nD) (t : Fin cfg0.N) (d) : (dats m 0 c).before 10 t d = iblk m c 10 t :=
  before0_10_of m (dats m 0 c) (dats_array m c 10) (fun _ => by dsimp only [dats]) t d

/-- What the body is called with at point `t`. -/
def bodyGiven (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it gives back. -/
def bodyLeft (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 3200000 in
/-- The body at any point gives back what the launch expects of it. -/
theorem body_sound (c : Dev nD) (t : Fin cfg0.N) :
    bodyGiven m c t ⊢ wp frame (wpE (defs₀ (F := F)) Variants.none c none) Set.univ (bodyAt0 t) (fun _ => bodyLeft m c t) := by
  unfold bodyGiven bodyLeft bodyAt0
  simp only [before_0, before_1, before_2, before_3, before_4, before_5, before_6, before_7, before_8, before_9, before_10]
  rw [show (dats m 0 c).owesAt () t.succ = (dats m 0 c).owesAt () t.castSucc from rfl,
    show (dats m 0 c).Φ t.castSucc = inv m c t.val from rfl,
    show (dats m 0 c).Φ t.succ = inv m c (t.val + 1) from rfl]
  simp only [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = pointOut m c t from rfl]
  unfold inv
  iintro ⟨⟨⟨%s, %hs, S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hst := start_same m c t s hs
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) s.x14 s.x15 s.x16 s.x17 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  isplitl [S0 S1 S2 S3 Hg]
  · isplitl [S0 S1 S2 S3]
    · iexists (pointNext m c t s)
      isplitr
      · ipureintro; intro _; rw [scrAt_succ]; exact next_agree _ _ _ _ _ _ _ _ _ _ _ _ hst
      isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  rw [pointOut_of_same m c t hst]
  iexact H11

/-- The body table's row at point `t`'s slots is the body as `bodyAt0` spells it. -/
theorem body_row (t : Fin cfg0.N) :
    defs₀ (F := F) .tc cfg0.body (cfg0.bodyArgs t (cfg0.slots t)) = bodyAt0 t := by
  unfold defs₀; rw [Defs.onTc_tc]

/-- The launch's obligation on the body, at every point. -/
theorem body_obligation (c : Dev nD) :
    BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- Every execution terminates with the operands' arrays and every other buffer as the region found them, the
    result's array at the points' blocks, and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_array m) (hin := inv_in m) (hout := fun c => inv_out m c _)

/-- The frame: every execution terminates, the arguments end unchanged, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (dats_array m) ((θ_run defs _ _).mono (fun _ h => h.1) (run_main m ρ)))
    ((θ_run defs _ _).mono (fun _ h => h.2) (run_main m ρ))

end Cert.KernelIdeal.Layer

end
-- ==== Proof.ReferenceFrame.lean ====
/- The reference program's frame: its generated run reads the arguments back unchanged, and it declares no semaphore. -/
module

public import proofs.«01_k».proof.Proof.Gen.ReferenceIdeal.Run
public import Idealize.ShloMosaic.Lib.Quiescent
public import Idealize.ShloMosaic.Lib.Claim

@[expose] public section

noncomputable section

namespace Cert.ReferenceIdeal.Layer

open Idealize.ShloMosaic Idealize.ShloMosaic.TcCoe Idealize.SL.Sem

variable {F : FTy → Type} [FloatOps F]
variable (m : (ℓ : Loc nD τ sig) → Buf (Elt F) ℓ) (ρ : Dev nD → PrngReg)

/-- The reference runs, leaves its nine arguments as they were, and no counter is raised (there is none). -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => (h c).2, sem_eq_zero_of_no_sems (by decide) r.2⟩) (Cert.ReferenceIdeal.Value.run m ρ)

end Cert.ReferenceIdeal.Layer

end
-- ==== Proof.Layer.lean ====
/- The layer as mathematics over the extended reals: the projections, the causal convolution, the scan, the gate with its
   norm, and the output projection. No program is mentioned here; both programs are brought to these functions. -/
module

public import Idealize.ShloMosaic.Lib.Pointwise

@[expose] public section

noncomputable section

namespace Cert.Layer

open Idealize.ShloMosaic

/-- The layer's arguments by their coordinates; positions run over all naturals. -/
structure Args where
  u : Fin 2 → ℕ → Fin 1024 → EReal
  w : Fin 4240 → Fin 1024 → EReal
  cw : Fin 2176 → Fin 4 → EReal
  cb : Fin 2176 → EReal
  dtb : Fin 16 → EReal
  al : Fin 16 → EReal
  dd : Fin 16 → EReal
  nw : Fin 2048 → EReal
  wo : Fin 1024 → Fin 2048 → EReal

/-- The value `k` positions back, zero before the start. -/
def back (f : ℕ → EReal) (k t : ℕ) : EReal := if k ≤ t then f (t - k) else 0

/-- `v` times its logistic. -/
def silu (v : EReal) : EReal := v * Ideal.logistic v

/-- The logarithm of one plus the exponential, in the form that does not overflow. -/
def softplus (v : EReal) : EReal := max v 0 + Ideal.log1p (Ideal.exp (-(max v (-v))))

namespace Args

variable (A : Args) (b : Fin 2)

/-- The gate's input. -/
def z (t : ℕ) (e : Fin 2048) : EReal := ∑ d, A.u b t d * A.w ⟨e.val, by omega⟩ d
/-- The convolution's input. -/
def xbc (e : Fin 2176) (t : ℕ) : EReal := ∑ d, A.u b t d * A.w ⟨2048 + e.val, by omega⟩ d
/-- The step sizes before their bias. -/
def dtr (t : ℕ) (h : Fin 16) : EReal := ∑ d, A.u b t d * A.w ⟨4224 + h.val, by omega⟩ d
/-- The convolution over four positions, with its bias. -/
def pre (t : ℕ) (e : Fin 2176) : EReal :=
  A.cw e 0 * back (A.xbc b e) 3 t + A.cw e 1 * back (A.xbc b e) 2 t + A.cw e 2 * back (A.xbc b e) 1 t
    + A.cw e 3 * A.xbc b e t + A.cb e
/-- The activated convolution. -/
def conv (t : ℕ) (e : Fin 2176) : EReal := silu (A.pre b t e)
/-- The step sizes. -/
def dt (t : ℕ) (h : Fin 16) : EReal := softplus (A.dtr b t h + A.dtb h)
/-- The decay rate of a head. -/
def rate (h : Fin 16) : EReal := -(Ideal.exp (A.al h))
/-- The heads' inputs. -/
def x (t : ℕ) (h : Fin 16) (p : Fin 128) : EReal := A.conv b t ⟨128 * h.val + p.val, by omega⟩
/-- What enters the state. -/
def bm (t : ℕ) (n : Fin 64) : EReal := A.conv b t ⟨2048 + n.val, by omega⟩
/-- What reads the state. -/
def cm (t : ℕ) (n : Fin 64) : EReal := A.conv b t ⟨2112 + n.val, by omega⟩
/-- The scan's state before position `t`. -/
def st (h : Fin 16) (n : Fin 64) (p : Fin 128) : ℕ → EReal
  | 0 => 0
  | t + 1 => st h n p t * Ideal.exp (A.dt b t h * A.rate h) + (A.dt b t h * A.x b t h p) * A.bm b t n
/-- The scan's output. -/
def y (t : ℕ) (h : Fin 16) (p : Fin 128) : EReal := ∑ n, A.st b h n p (t + 1) * A.cm b t n
/-- The gated output. -/
def gated (t : ℕ) (e : Fin 2048) : EReal :=
  (A.y b t ⟨e.val / 128, by omega⟩ ⟨e.val % 128, by omega⟩
      + A.conv b t ⟨e.val, by omega⟩ * A.dd ⟨e.val / 128, by omega⟩)
    * silu (A.z b t e)
/-- The layer's output. -/
def out (t : ℕ) (o : Fin 1024) : EReal :=
  ∑ e, A.gated b t e
      * Ideal.rsqrt (Ideal.div (∑ k, A.gated b t k * A.gated b t k) (Ideal.ofBits FTy.f32 0x45000000#32)
          + Ideal.ofBits FTy.f32 0x3727C5AC#32)
      * A.nw e * A.wo o e

theorem st_zero (h : Fin 16) (n : Fin 64) (p : Fin 128) : A.st b h n p 0 = 0 := rfl
theorem st_succ (h : Fin 16) (n : Fin 64) (p : Fin 128) (t : ℕ) : A.st b h n p (t + 1)
    = A.st b h n p t * Ideal.exp (A.dt b t h * A.rate h) + (A.dt b t h * A.x b t h p) * A.bm b t n := rfl

end Args

/-! ## Real values -/

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem IsReal.add {v w : EReal} (hv : IsReal v) (hw : IsReal w) : IsReal (v + w) := by
  obtain ⟨a, rfl⟩ := hv; obtain ⟨c, rfl⟩ := hw; exact ⟨a + c, (EReal.coe_add a c).symm⟩
theorem IsReal.mul {v w : EReal} (hv : IsReal v) (hw : IsReal w) : IsReal (v * w) := by
  obtain ⟨a, rfl⟩ := hv; obtain ⟨c, rfl⟩ := hw; exact ⟨a * c, (EReal.coe_mul a c).symm⟩
theorem IsReal.neg {v : EReal} (hv : IsReal v) : IsReal (-v) := by
  obtain ⟨a, rfl⟩ := hv; exact ⟨-a, (EReal.coe_neg a).symm⟩
theorem IsReal.max {v w : EReal} (hv : IsReal v) (hw : IsReal w) : IsReal (max v w) := by
  rcases max_choice v w with h | h <;> rw [h] <;> assumption
theorem IsReal.exp {v : EReal} (hv : IsReal v) : IsReal (Ideal.exp v) := by
  obtain ⟨a, rfl⟩ := hv; exact ⟨Real.exp a, rfl⟩
theorem IsReal.logistic {v : EReal} (hv : IsReal v) : IsReal (Ideal.logistic v) := by
  obtain ⟨a, rfl⟩ := hv; exact ⟨_, Ideal.logistic_coe a⟩
theorem IsReal.silu {v : EReal} (hv : IsReal v) : IsReal (silu v) := hv.mul hv.logistic
theorem IsReal.softplus {v : EReal} (hv : IsReal v) : IsReal (softplus v) := by
  refine (hv.max isReal_zero).add ?_
  obtain ⟨a, ha⟩ := (hv.max hv.neg).neg
  refine ⟨Real.log (1 + Real.exp a), ?_⟩
  rw [ha, Ideal.exp_coe, Ideal.log1p, ← EReal.coe_one, ← EReal.coe_add, Ideal.log_coe,
    if_neg (not_le.mpr (by positivity))]
theorem IsReal.sum {ι : Type} (s : Finset ι) {f : ι → EReal} (h : ∀ i, IsReal (f i)) : IsReal (∑ i ∈ s, f i) := by
  classical
  induction s using Finset.induction_on with
  | empty => simpa using isReal_zero
  | insert a s ha ih => rw [Finset.sum_insert ha]; exact (h a).add ih
theorem IsReal.back {f : ℕ → EReal} (h : ∀ t, IsReal (f t)) (k t : ℕ) : IsReal (back f k t) := by
  unfold Layer.back; split
  · exact h _
  · exact isReal_zero

/-- The arguments of the scan's inputs are real numbers. -/
structure Args.Finite (A : Args) : Prop where
  u : ∀ b t d, IsReal (A.u b t d)
  w : ∀ e d, IsReal (A.w e d)
  cw : ∀ e k, IsReal (A.cw e k)
  cb : ∀ e, IsReal (A.cb e)
  dtb : ∀ h, IsReal (A.dtb h)
  al : ∀ h, IsReal (A.al h)

namespace Args.Finite

variable {A : Args} (hA : A.Finite) (b : Fin 2)
include hA

theorem xbc (e : Fin 2176) (t : ℕ) : IsReal (A.xbc b e t) := IsReal.sum _ fun d => (hA.u b t d).mul (hA.w _ d)
theorem conv (t : ℕ) (e : Fin 2176) : IsReal (A.conv b t e) :=
  (((((hA.cw e 0).mul (.back (hA.xbc b e) 3 t)).add ((hA.cw e 1).mul (.back (hA.xbc b e) 2 t))).add
    ((hA.cw e 2).mul (.back (hA.xbc b e) 1 t))).add ((hA.cw e 3).mul (hA.xbc b e t))).add (hA.cb e) |>.silu
theorem dt (t : ℕ) (h : Fin 16) : IsReal (A.dt b t h) :=
  ((IsReal.sum _ fun d => (hA.u b t d).mul (hA.w _ d)).add (hA.dtb h)).softplus
theorem rate (h : Fin 16) : IsReal (A.rate h) := (hA.al h).exp.neg
theorem st (h : Fin 16) (n : Fin 64) (p : Fin 128) : ∀ t, IsReal (A.st b h n p t)
  | 0 => isReal_zero
  | t + 1 => ((st h n p t).mul ((hA.dt b t h).mul (hA.rate h)).exp).add
      (((hA.dt b t h).mul (hA.conv b t _)).mul (hA.conv b t _))

end Args.Finite

/-! ## A chunk of the scan in closed form, over the reals -/

section Chunk

open Finset

/-- The running sum of the first `r + 1` decay exponents. -/
def cum (g : ℕ → ℝ) (r : ℕ) : ℝ := ∑ i ∈ range (r + 1), g i

theorem cum_succ (g : ℕ → ℝ) (r : ℕ) : cum g (r + 1) = cum g r + g (r + 1) := Finset.sum_range_succ g (r + 1)

/-- The state after `r + 1` steps of `s ↦ s · exp g + v`, from the running sums of the exponents. -/
theorem state_closed (g v s : ℕ → ℝ) (hs : ∀ i, s (i + 1) = s i * Real.exp (g i) + v i) (r : ℕ) :
    s (r + 1) = s 0 * Real.exp (cum g r) + ∑ j ∈ range (r + 1), Real.exp (cum g r - cum g j) * v j := by
  induction r with
  | zero => rw [hs 0]; simp [cum]
  | succ r ih =>
      rw [hs (r + 1), ih, Finset.sum_range_succ _ (r + 1), sub_self, Real.exp_zero, one_mul, add_mul, Finset.sum_mul,
        cum_succ, Real.exp_add, mul_assoc, ← add_assoc]
      refine congrArg (· + _) (congrArg (_ + ·) (Finset.sum_congr rfl fun j _ => ?_))
      rw [show cum g r + g (r + 1) - cum g j = (cum g r - cum g j) + g (r + 1) by ring, Real.exp_add]
      ring

/-- A sum over a chunk of terms that vanish after `r` is the sum of the first `r + 1`. -/
theorem sum_upto (f : ℕ → ℝ) (r : Fin 256) :
    ∑ i : Fin 256, (if i.val ≤ r.val then f i.val else 0) = ∑ i ∈ range (r.val + 1), f i := by
  rw [Fin.sum_univ_eq_sum_range (fun i => if i ≤ r.val then f i else 0) 256, ← Finset.sum_filter]
  refine Finset.sum_congr (Finset.ext fun i => ?_) fun _ _ => rfl
  have := r.isLt
  simp only [mem_filter, mem_range]; omega

/-- The output at position `r` of a chunk: the part within the chunk, and the part from the state before it. -/
theorem out_closed {N : ℕ} (g q : ℕ → ℝ) (bm : ℕ → Fin N → ℝ) (c : Fin N → ℝ) (s : Fin N → ℕ → ℝ)
    (hs : ∀ n i, s n (i + 1) = s n i * Real.exp (g i) + q i * bm i n) (r : Fin 256) :
    ∑ x : Fin 256, (∑ n, c n * bm x.val n) * (if x.val ≤ r.val then Real.exp (cum g r.val - cum g x.val) else 0) * q x.val
        + Real.exp (cum g r.val) * ∑ n, c n * s n 0
      = ∑ n, s n (r.val + 1) * c n := by
  have e1 : ∑ x : Fin 256, (∑ n, c n * bm x.val n) * (if x.val ≤ r.val then Real.exp (cum g r.val - cum g x.val) else 0) * q x.val
      = ∑ j ∈ range (r.val + 1), (∑ n, c n * bm j n) * Real.exp (cum g r.val - cum g j) * q j := by
    rw [← sum_upto]; exact Finset.sum_congr rfl fun x _ => by split <;> simp
  have e2 : ∀ n, s n (r.val + 1) * c n = Real.exp (cum g r.val) * (c n * s n 0)
      + ∑ j ∈ range (r.val + 1), c n * bm j n * Real.exp (cum g r.val - cum g j) * q j := fun n => by
    rw [state_closed g (fun i => q i * bm i n) (s n) (hs n) r.val, add_mul, Finset.sum_mul]
    exact congrArg₂ _ (by ring) (Finset.sum_congr rfl fun j _ => by ring)
  rw [e1, Finset.sum_congr rfl fun n _ => e2 n, Finset.sum_add_distrib, add_comm, Finset.mul_sum, Finset.sum_comm]
  refine congrArg (_ + ·) (Finset.sum_congr rfl fun j _ => ?_)
  rw [Finset.sum_mul, Finset.sum_mul]

/-- The state after the chunk. -/
theorem end_closed (g q bm s : ℕ → ℝ) (hs : ∀ i, s (i + 1) = s i * Real.exp (g i) + q i * bm i) :
    s 0 * Real.exp (cum g 255) + ∑ x : Fin 256, bm x.val * (q x.val * Real.exp (cum g 255 - cum g x.val)) = s 256 := by
  rw [state_closed g (fun i => q i * bm i) s hs 255,
    Fin.sum_univ_eq_sum_range (fun x => bm x * (q x * Real.exp (cum g 255 - cum g x))) 256]
  exact congrArg (_ + ·) (Finset.sum_congr rfl fun x _ => by ring)

end Chunk

end Cert.Layer

end
-- ==== Proof.IdealValue.lean ====
/- One chunk of the kernel read entry by entry: from operands that hold the layer's arguments, the block it stores and the
   state it leaves are the layer's. -/
module

public import proofs.«01_k».proof.Proof.IdealChunk
public import proofs.«01_k».proof.Proof.Layer
public import Idealize.ShloMosaic.Lib.WordCmp
public import Idealize.ShloMosaic.Lib.Pipeline.Value

@[expose] public section

set_option maxRecDepth 16384

noncomputable section

namespace Cert.KernelIdeal.Layer

open Idealize.ShloMosaic Cert.KernelIdeal.Gen
open Cert.Layer (Args back IsReal cum)

/-! ## The masks -/

theorem select_sle {α : Type} (r x : Fin 256) (p q : α) :
    Scalar.select (IntOp.cmpi CmpIPredicate.sle (BitVec.ofNat 32 x.val) (BitVec.ofNat 32 r.val)) p q = if x.val ≤ r.val then p else q := by
  rw [WordCmp.cmpi_sle_ofNat (by omega) (by omega), Scalar.select_ofBool]
  simp only [decide_eq_true_eq]
theorem select_eq {α : Type} (x h : ℕ) (hx : x < 16) (hh : h < 16) (p q : α) :
    Scalar.select (IntOp.cmpi CmpIPredicate.eq (BitVec.ofNat 32 x) (BitVec.ofNat 32 h)) p q = if x = h then p else q := by
  rw [WordCmp.cmpi_eq_ofNat (by omega) (by omega), Scalar.select_ofBool]
  simp only [decide_eq_true_eq]

/-- The triangle of ones on and below the diagonal. -/
theorem tri_apply (r x : Fin 256) : k0_pay31 (F := Ideal) (ix2 r x) = if x.val ≤ r.val then 1 else 0 := by
  pointwise [k0_pay31, k0_pay30]
  exact select_sle r x 1 0
/-- The mask: zero on and below the diagonal, minus infinity above it. -/
theorem mask_apply (r x : Fin 256) : k0_pay32 (F := Ideal) (ix2 r x) = if x.val ≤ r.val then 0 else ⊥ := by
  pointwise [k0_pay32, k0_pay30]
  rw [select_sle, IdealRules.named_const.ideal_named_scalar _ _ _ _ (show κ "mask" = some ⊥ from rfl)]
/-- Shifting a column's number right by seven is dividing it by 128. -/
theorem shift_col : ∀ e : Fin 2048, IntOp.shrsi ArithUnit.vector (BitVec.ofNat 32 e.val) 7#32 = BitVec.ofNat 32 (e.val / 128) := by
  decide +kernel
/-- A sum over the heads that keeps one head is that head's term. -/
theorem pick_head (f : Fin 16 → EReal) (h : Fin 16) :
    ∑ x : Fin 16, Scalar.select (IntOp.cmpi CmpIPredicate.eq (BitVec.ofNat 32 x.val) (BitVec.ofNat 32 h.val)) (f x) 0 = f h := by
  rw [Finset.sum_congr rfl fun x _ => select_eq x.val h.val x.isLt h.isLt (f x) 0,
    Finset.sum_congr rfl (g := fun x => if x = h then f x else 0) fun x _ => by simp only [Fin.ext_iff]]
  simp
/-- A sum over the heads that keeps a column's head. -/
theorem pick_col (f : Fin 16 → EReal) (e : Fin 2048) :
    ∑ x : Fin 16, Scalar.select (IntOp.cmpi CmpIPredicate.eq (BitVec.ofNat 32 x.val) (IntOp.shrsi ArithUnit.vector (BitVec.ofNat 32 e.val) 7#32)) (f x) 0
      = f ⟨e.val / 128, by omega⟩ := by
  rw [shift_col]; exact pick_head f ⟨e.val / 128, by omega⟩

/-! ## Operands that hold the layer's arguments -/

/-- The operands of chunk `k` of batch `b` hold the arguments, the rows before the chunk and the scan's state. -/
structure Fits (A : Args) (b : Fin 2) (k : ℕ) (L : Loads Ideal) : Prop where
  v3 : ∀ (r : Fin 256) (d : Fin 1024), L.v3 (ix3 0 r d) = A.u b (256 * k + r.val) d
  v6 : ∀ (e : Fin 2048) (d : Fin 1024), L.v6 (ix2 e d) = A.w ⟨e.val, by omega⟩ d
  v8 : ∀ (e : Fin 2176) (d : Fin 1024), L.v8 (ix2 e d) = A.w ⟨2048 + e.val, by omega⟩ d
  v10 : ∀ (h : Fin 16) (d : Fin 1024), L.v10 (ix2 h d) = A.w ⟨4224 + h.val, by omega⟩ d
  v16 : ∀ e : Fin 2176, L.v16 (ix2 0 e) = A.cw e 0
  v18 : ∀ (r : Fin 256) (e : Fin 2176), L.v18 (ix2 r e) = back (A.xbc b e) 3 (256 * k + r.val)
  v21 : ∀ e : Fin 2176, L.v21 (ix2 0 e) = A.cw e 1
  v23 : ∀ (r : Fin 256) (e : Fin 2176), L.v23 (ix2 r e) = back (A.xbc b e) 2 (256 * k + r.val)
  v27 : ∀ e : Fin 2176, L.v27 (ix2 0 e) = A.cw e 2
  v29 : ∀ (r : Fin 256) (e : Fin 2176), L.v29 (ix2 r e) = back (A.xbc b e) 1 (256 * k + r.val)
  v33 : ∀ e : Fin 2176, L.v33 (ix2 0 e) = A.cw e 3
  v35 : ∀ (r : Fin 256) (e : Fin 2176), L.v35 (ix2 r e) = A.xbc b e (256 * k + r.val)
  v39 : ∀ e : Fin 2176, L.v39 (ix2 0 e) = A.cb e
  v52 : ∀ h : Fin 16, L.v52 (ix2 0 h) = A.dtb h
  v64 : ∀ h : Fin 16, L.v64 (ix2 h 0) = A.dtb h
  v76 : ∀ h : Fin 16, L.v76 (ix2 0 h) = A.rate h
  v80 : ∀ h : Fin 16, L.v80 (ix2 h 0) = A.rate h
  st : ∀ (h : Fin 16) (n : Fin 64) (p : Fin 128), L.st h (ix3 0 n p) = A.st b h n p (256 * k)
  v623 : ∀ e : Fin 2048, L.v623 (ix2 0 e) = A.dd ⟨e.val / 128, by omega⟩
  v641 : ∀ e : Fin 2048, L.v641 (ix2 0 e) = A.nw e
  v646 : ∀ (o : Fin 1024) (e : Fin 2048), L.v646 (ix2 o e) = A.wo o e

namespace Fits

variable {A : Args} {b : Fin 2} {k : ℕ} {L : Loads Ideal} (hL : Fits A b k L)
include hL

theorem z (r : Fin 256) (e : Fin 2048) : L.z (ix2 r e) = A.z b (256 * k + r.val) e := by
  pointwise [Loads.z, k0_pay16, k0_pay15, k0_pay14]
  exact Finset.sum_congr rfl fun d _ => by rw [hL.v3, hL.v6]
theorem xbc (r : Fin 256) (e : Fin 2176) : L.xbc (ix2 r e) = A.xbc b e (256 * k + r.val) := by
  pointwise [Loads.xbc, k0_pay19, k0_pay15, k0_pay14]
  exact Finset.sum_congr rfl fun d _ => by rw [hL.v3, hL.v8]
theorem conv (r : Fin 256) (e : Fin 2176) : L.conv (ix2 r e) = A.conv b (256 * k + r.val) e := by
  pointwise [Loads.conv, k0_pay20, k0_pay21, k0_pay23]
  rw [hL.v16, hL.v18, hL.v21, hL.v23, hL.v27, hL.v29, hL.v33, hL.v35, hL.v39]
  rfl
theorem xs (r : Fin 256) (e : Fin 2048) : L.xs (ix2 r e) = A.conv b (256 * k + r.val) ⟨e.val, by omega⟩ := by
  rw [← hL.conv]
  pointwise [Loads.xs, Loads.conv, k0_pay20, k0_pay21, k0_pay23, k0_pay24]
theorem bs (r : Fin 256) (n : Fin 64) : L.bs (ix2 r n) = A.bm b (256 * k + r.val) n := by
  unfold Args.bm; rw [← hL.conv]
  pointwise [Loads.bs, Loads.conv, k0_pay20, k0_pay21, k0_pay23, k0_pay25]
theorem cs (r : Fin 256) (n : Fin 64) : L.cs (ix2 r n) = A.cm b (256 * k + r.val) n := by
  unfold Args.cm; rw [← hL.conv]
  pointwise [Loads.cs, Loads.conv, k0_pay20, k0_pay21, k0_pay23, k0_pay26]
theorem dt (r : Fin 256) (h : Fin 16) : L.dt (ix2 r h) = A.dt b (256 * k + r.val) h := by
  pointwise [Loads.dt, k0_pay17, k0_pay27, k0_pay14]
  rw [Finset.sum_congr rfl fun d _ => by rw [hL.v3, hL.v10], hL.v52, zero_sub]
  rfl
theorem sumRow' (r : Fin 256) (h : Fin 16) : L.sumRow (ix2 r h)
    = ∑ x : Fin 256, (if x.val ≤ r.val then 1 else 0) * (A.dt b (256 * k + x.val) h * A.rate h) := by
  pointwise [Loads.sumRow, k0_pay33]
  exact Finset.sum_congr rfl fun x _ => by rw [tri_apply, hL.dt, hL.v76]
theorem sumCol' (r : Fin 256) (h : Fin 16) : L.sumCol (ix2 h r)
    = ∑ x : Fin 256, (if x.val ≤ r.val then 1 else 0) * (A.dt b (256 * k + x.val) h * A.rate h) := by
  pointwise [Loads.sumCol, k0_pay34, k0_pay28, k0_pay18, k0_pay29, k0_pay14]
  refine Finset.sum_congr rfl fun x _ => ?_
  rw [tri_apply, hL.v80, hL.v64, zero_sub,
    Finset.sum_congr rfl fun d _ => (by rw [hL.v3, hL.v10, mul_comm] : L.v10 (ix2 h d) * L.v3 (ix3 0 x d) = A.u b (256 * k + x.val) d * A.w ⟨4224 + h.val, by omega⟩ d),
    mul_comm]
  rfl

theorem xdt (r : Fin 256) (e : Fin 2048) : L.xdt (ix2 r e)
    = A.conv b (256 * k + r.val) ⟨e.val, by omega⟩ * A.dt b (256 * k + r.val) ⟨e.val / 128, by omega⟩ := by
  pointwise [Loads.xdt, k0_pay42, k0_pay39, k0_pay41, k0_pay38]
  rw [pick_col, hL.xs, hL.dt]
theorem fromStart (r : Fin 256) (e : Fin 2048) : L.fromStart (ix2 r e) = Ideal.exp (L.sumRow (ix2 r ⟨e.val / 128, by omega⟩)) := by
  pointwise [Loads.fromStart, k0_pay40, k0_pay35, k0_pay38]
  exact pick_col (fun x => Ideal.exp (L.sumRow (ix2 r x))) e
theorem last (h : Fin 16) : L.last (ix2 0 h) = Ideal.exp (L.sumRow (ix2 255 h)) := by
  pointwise [Loads.last, Loads.sumRow, k0_pay36, k0_pay33, k0_pay35]
theorem xend (r : Fin 256) (e : Fin 2048) : L.xend (ix2 r e)
    = A.conv b (256 * k + r.val) ⟨e.val, by omega⟩
      * (Ideal.exp (L.sumRow (ix2 255 ⟨e.val / 128, by omega⟩) - L.sumRow (ix2 r ⟨e.val / 128, by omega⟩))
        * A.dt b (256 * k + r.val) ⟨e.val / 128, by omega⟩) := by
  rw [← hL.dt, ← hL.xs]
  pointwise [Loads.xend, k0_pay43, k0_pay37, k0_pay41, k0_pay38]
  exact congrArg (L.xs (ix2 r e) * ·)
    (pick_col (fun x => Ideal.exp (L.sumRow (ix2 255 x) - L.sumRow (ix2 r x)) * L.dt (ix2 r x)) e)
theorem y' (h : Fin 16) (r : Fin 256) (p : Fin 128) : L.y h (ix2 r p) =
    ∑ x : Fin 256, (∑ n, A.cm b (256 * k + r.val) n * A.bm b (256 * k + x.val) n)
        * Ideal.exp (L.sumRow (ix2 r h) - L.sumCol (ix2 h x) + (if x.val ≤ r.val then 0 else ⊥))
        * (A.x b (256 * k + x.val) h p * A.dt b (256 * k + x.val) h)
      + Ideal.exp (L.sumRow (ix2 r h)) * ∑ n, A.cm b (256 * k + r.val) n * A.st b h n p (256 * k) := by
  have hh : (128 * h.val + p.val) / 128 = h.val := by omega
  pointwise [Loads.y, headOut, k0_pay45, k0_pay46, k0_pay44, decay, headPick]
  refine congrArg₂ (· + ·) (Finset.sum_congr rfl fun x _ => ?_) ?_
  · rw [Finset.sum_congr rfl fun n _ => by rw [hL.cs, hL.bs], pick_head, mask_apply, hL.xdt]
    simp only [hh]
    rfl
  · rw [hL.fromStart, Finset.sum_congr rfl fun n _ => by rw [hL.cs, hL.st]]
    simp only [hh]
theorem stNew' (h : Fin 16) (n : Fin 64) (p : Fin 128) : L.stNew h (ix3 0 n p) =
    A.st b h n p (256 * k) * Ideal.exp (L.sumRow (ix2 255 h))
      + ∑ x : Fin 256, A.bm b (256 * k + x.val) n * (A.x b (256 * k + x.val) h p
        * (Ideal.exp (L.sumRow (ix2 255 h) - L.sumRow (ix2 x h)) * A.dt b (256 * k + x.val) h)) := by
  have hh : (128 * h.val + p.val) / 128 = h.val := by omega
  pointwise [Loads.stNew, headState, k0_pay44]
  rw [hL.st, hL.last]
  refine congrArg (_ + ·) (Finset.sum_congr rfl fun x _ => ?_)
  rw [hL.bs, hL.xend]
  simp only [hh]
  rfl

end Fits

/-! ## The scan over a chunk -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (c : Prop) [Decidable c] (v w : ℝ) : (((if c then v else w : ℝ)) : EReal) = if c then (v : EReal) else (w : EReal) := by
  split <;> rfl

/-- The running sum through the triangle of ones. -/
theorem sum_tri (g : ℕ → ℝ) (r : Fin 256) :
    ∑ x : Fin 256, (if x.val ≤ r.val then (1 : EReal) else 0) * (g x.val : EReal) = (cum g r.val : EReal) := by
  rw [cum, ← Cert.Layer.sum_upto, coe_sum]
  refine Finset.sum_congr rfl fun x _ => ?_
  split <;> simp

/-- The decay factor with its mask. -/
theorem exp_mask (v w : ℝ) (c : Prop) [Decidable c] :
    Ideal.exp ((v : EReal) - (w : EReal) + (if c then 0 else ⊥)) = ((if c then Real.exp (v - w) else 0 : ℝ) : EReal) := by
  split
  · rw [add_zero, ← EReal.coe_sub, Ideal.exp_coe]
  · rw [EReal.add_bot, Ideal.exp_bot, EReal.coe_zero]

theorem exists_real {ι : Type} {f : ι → EReal} (h : ∀ i, IsReal (f i)) : ∃ g : ι → ℝ, ∀ i, f i = (g i : EReal) :=
  ⟨fun i => (h i).choose, fun i => (h i).choose_spec⟩

namespace Fits

variable {A : Args} {b : Fin 2} {k : ℕ} {L : Loads Ideal} (hL : Fits A b k L) (hA : A.Finite)
include hL hA

/-- What the scan's chunk needs of one head, as real numbers. -/
theorem reals (h : Fin 16) (p : Fin 128) : ∃ (d x : ℕ → ℝ) (bm : ℕ → Fin 64 → ℝ) (a : ℝ) (s : Fin 64 → ℕ → ℝ),
    (∀ i, A.dt b (256 * k + i) h = (d i : EReal)) ∧ (∀ i, A.x b (256 * k + i) h p = (x i : EReal))
    ∧ (∀ i n, A.bm b (256 * k + i) n = (bm i n : EReal)) ∧ A.rate h = (a : EReal)
    ∧ (∀ n i, A.st b h n p (256 * k + i) = (s n i : EReal))
    ∧ (∀ n i, s n (i + 1) = s n i * Real.exp (d i * a) + (x i * d i) * bm i n)
    ∧ (∀ r : Fin 256, L.sumRow (ix2 r h) = (cum (fun i => d i * a) r.val : EReal))
    ∧ (∀ r : Fin 256, L.sumCol (ix2 h r) = (cum (fun i => d i * a) r.val : EReal)) := by
  obtain ⟨d, hd⟩ := exists_real fun i : ℕ => hA.dt b (256 * k + i) h
  obtain ⟨x, hx⟩ := exists_real fun i : ℕ => hA.conv b (256 * k + i) ⟨128 * h.val + p.val, by omega⟩
  obtain ⟨bm, hb⟩ := exists_real fun i : ℕ × Fin 64 => hA.conv b (256 * k + i.1) ⟨2048 + i.2.val, by omega⟩
  obtain ⟨a, ha⟩ := hA.rate h
  obtain ⟨s, hs⟩ := exists_real fun i : Fin 64 × ℕ => hA.st b h i.1 p (256 * k + i.2)
  have hsum : ∀ r : Fin 256, ∑ x : Fin 256, (if x.val ≤ r.val then 1 else 0) * (A.dt b (256 * k + x.val) h * A.rate h)
      = (cum (fun i => d i * a) r.val : EReal) := fun r => by
    rw [← sum_tri]
    exact Finset.sum_congr rfl fun x _ => by rw [hd, ha, EReal.coe_mul]
  refine ⟨d, x, fun i n => bm (i, n), a, fun n i => s (n, i), hd, hx, fun i n => hb (i, n), ha, fun n i => hs (n, i),
    fun n i => ?_, fun r => (hL.sumRow' r h).trans (hsum r), fun r => (hL.sumCol' r h).trans (hsum r)⟩
  apply EReal.coe_injective
  have e := A.st_succ b h n p (256 * k + i)
  rw [show 256 * k + i + 1 = 256 * k + (i + 1) from rfl, hs (n, i + 1), hs (n, i), hd, ha,
    show A.x b (256 * k + i) h p = (x i : EReal) from hx i, show A.bm b (256 * k + i) n = (bm (i, n) : EReal) from hb (i, n),
    ← EReal.coe_mul, ← EReal.coe_mul, ← EReal.coe_mul, Ideal.exp_coe, ← EReal.coe_mul, ← EReal.coe_add] at e
  rw [e, mul_comm (d i) (x i)]

theorem y (h : Fin 16) (r : Fin 256) (p : Fin 128) : L.y h (ix2 r p) = A.y b (256 * k + r.val) h p := by
  obtain ⟨d, x, bm, a, s, hd, hx, hb, ha, hs, hrec, hrow, hcol⟩ := hL.reals hA h p
  obtain ⟨c, hc⟩ := exists_real fun n : Fin 64 => hA.conv b (256 * k + r.val) ⟨2112 + n.val, by omega⟩
  have hc' : ∀ n, A.cm b (256 * k + r.val) n = (c n : EReal) := hc
  have key := Cert.Layer.out_closed (fun i => d i * a) (fun i => x i * d i) bm c s hrec r
  rw [hL.y', Args.y]
  have e1 : ∀ n, A.st b h n p (256 * k + r.val + 1) * A.cm b (256 * k + r.val) n = ((s n (r.val + 1) * c n : ℝ) : EReal) := fun n => by
    rw [show 256 * k + r.val + 1 = 256 * k + (r.val + 1) from rfl, hs, hc', EReal.coe_mul]
  rw [Finset.sum_congr rfl fun n _ => e1 n, ← coe_sum, ← key, EReal.coe_add, EReal.coe_mul, coe_sum, coe_sum, hrow, Ideal.exp_coe]
  refine congrArg₂ (· + ·) (Finset.sum_congr rfl fun i _ => ?_) (congrArg (_ * ·) (Finset.sum_congr rfl fun n _ => ?_))
  · rw [hcol, exp_mask, EReal.coe_mul, EReal.coe_mul, coe_sum, hx, hd, ← EReal.coe_mul (x i.val)]
    refine congrArg (· * _ * _) (Finset.sum_congr rfl fun n _ => ?_)
    rw [hc', hb, EReal.coe_mul]
  · rw [hc', EReal.coe_mul, ← hs n 0]; rfl

theorem stNew (h : Fin 16) (n : Fin 64) (p : Fin 128) : L.stNew h (ix3 0 n p) = A.st b h n p (256 * (k + 1)) := by
  obtain ⟨d, x, bm, a, s, hd, hx, hb, ha, hs, hrec, hrow, hcol⟩ := hL.reals hA h p
  have key := Cert.Layer.end_closed (fun i => d i * a) (fun i => x i * d i) (fun i => bm i n) (s n) (hrec n)
  rw [hL.stNew', show 256 * (k + 1) = 256 * k + 256 from rfl, hs, ← key, EReal.coe_add, EReal.coe_mul, coe_sum, ← hs n 0, hrow,
    Ideal.exp_coe]
  refine congrArg₂ (· + ·) rfl (Finset.sum_congr rfl fun i _ => ?_)
  rw [hrow, hb, hx, hd, ← EReal.coe_sub, Ideal.exp_coe, ← EReal.coe_mul, ← EReal.coe_mul, ← EReal.coe_mul]
  exact congrArg _ (congrArg (bm i.val n * ·) (by rw [mul_comm (Real.exp _), ← mul_assoc]; rfl))

/-- The heads' outputs side by side. -/
theorem ys (r : Fin 256) (e : Fin 2048) : L.ys (ix2 r e)
    = A.y b (256 * k + r.val) ⟨e.val / 128, by omega⟩ ⟨e.val % 128, by omega⟩ := by
  rw [← hL.y hA]
  exact concatenate_ofFn_apply (t := S256x2048) (s₁ := S256x128) 1 (fun h : Fin 16 => L.y h)
    concatenates_S256x128_S256x128_S256x128_S256x128_S256x128_S256x128_S256x128_S256x128_S256x128_S256x128_S256x128_S256x128_S256x128_S256x128_S256x128_S256x128_S256x2048_d1
    rfl 128 rfl (ix2 r e) ⟨e.val / 128, by omega⟩ rfl (ix2 r ⟨e.val % 128, by omega⟩) rfl
    (fun c hc => by match c with | 0 => rfl | 1 => exact absurd rfl hc)

/-- The block of the result. -/
theorem out (r : Fin 256) (o : Fin 1024) : L.out (ix3 0 r o) = A.out b (256 * k + r.val) o := by
  pointwise [Loads.out, k0_pay1, k0_pay106]
  have g : ∀ e : Fin 2048, (L.ys (ix2 r e) + L.xs (ix2 r e) * L.v623 (ix2 0 e)) * (L.z (ix2 r e) * Ideal.logistic (L.z (ix2 r e)))
      = A.gated b (256 * k + r.val) e := fun e => by
    rw [hL.ys hA, hL.xs, hL.v623, hL.z]; rfl
  simp only [g, hL.v641, hL.v646]
  rfl

end Fits

end Cert.KernelIdeal.Layer

end
-- ==== Proof.IdealStep.lean ====
/- One grid point of the kernel from operands that hold the layer's arguments: what its scratch buffers must hold before it,
   and that they hold the same of the next chunk after it. -/
module

public import proofs.«01_k».proof.Proof.IdealScratch
public import proofs.«01_k».proof.Proof.IdealValue

@[expose] public section

set_option maxRecDepth 16384

noncomputable section

namespace Cert.KernelIdeal.Layer

open Idealize.ShloMosaic Idealize.ShloMosaic.Tactic Cert.KernelIdeal.Gen
open Cert.Layer (Args back IsReal)

/-- The body's first branch is taken exactly at a sequence's first chunk. -/
theorem atStart_iff (i : grid0.Coords) : atStart i ↔ (i 1).val = 0 := by
  have h : (i 1).val < 8 := (i 1).isLt
  simp only [atStart]
  word_cmp

/-- A put of full rows, at an entry. -/
theorem put_row {α : Type} (x : S264x2176.Idx → α) (o n : ℕ) (w : ((a : Fin 2) → Fin ((![n, 2176] : Fin 2 → ℕ) a)) → α)
    (j : Fin 264) (e : Fin 2176) :
    VecWindow.put x ![o, 0] ![n, 2176] w (ix2 j e)
      = if h : o ≤ j.val ∧ j.val < o + n then w (ix2 (⟨j.val - o, by omega⟩ : Fin n) e) else x (ix2 j e) := by
  unfold VecWindow.put
  by_cases h : o ≤ j.val ∧ j.val < o + n
  · have hm : ∀ a, (![o, 0] : Fin 2 → ℕ) a ≤ ((ix2 j e : S264x2176.Idx) a).val
        ∧ ((ix2 j e : S264x2176.Idx) a).val < (![o, 0] : Fin 2 → ℕ) a + (![n, 2176] : Fin 2 → ℕ) a := fun a => by
      match a with
      | 0 => exact h
      | 1 => exact ⟨Nat.zero_le _, by show e.val < 0 + 2176; omega⟩
    rw [dif_pos hm, dif_pos h]
    refine congrArg w (funext fun a => Fin.ext ?_)
    match a with
    | 0 => rfl
    | 1 => rfl
  · rw [dif_neg h, dif_neg fun hm => h (hm 0)]

/-- A window of full rows, at an entry. -/
theorem window_row {α : Type} {R M : ℕ} (x : (⟨2, ![R, M]⟩ : Shape).Idx → α) (o n : ℕ)
    (inb : ∀ a, (![o, 0] : Fin 2 → ℕ) a + (![n, M] : Fin 2 → ℕ) a ≤ (⟨2, ![R, M]⟩ : Shape).size a) (j : Fin n) (e : Fin M) :
    VecWindow.window x ![o, 0] ![n, M] inb (ix2 j e)
      = x (ix2 (⟨o + j.val, Nat.lt_of_lt_of_le (Nat.add_lt_add_left j.isLt o) (inb 0)⟩ : Fin R) e) := by
  refine congrArg x (funext fun a => Fin.ext ?_)
  match a with
  | 0 => show o + 1 * j.val = o + j.val; omega
  | 1 => show 0 + 1 * e.val = e.val; omega

variable (A : Args) (b : Fin 2) (k : ℕ) (i : grid0.Coords)
variable (x2 : Vec Ideal S1x256x1024 .f32) (x3 : Vec Ideal S4240x1024 .f32) (x4 : Vec Ideal S4x2176 .f32) (x5 : Vec Ideal S1x2176 .f32) (x6 : Vec Ideal S1x16 .f32) (x7 : Vec Ideal S16x1 .f32) (x8 : Vec Ideal S1x16 .f32) (x9 : Vec Ideal S16x1 .f32) (x10 : Vec Ideal S1x2048 .f32) (x11 : Vec Ideal S1x2048 .f32) (x12 : Vec Ideal S1024x2048 .f32)

/-- The blocks of the operands at chunk `k` of batch `b` hold the arguments. -/
structure Ops : Prop where
  x2 : ∀ (r : Fin 256) (d : Fin 1024), x2 (ix3 0 r d) = A.u b (256 * k + r.val) d
  x3 : ∀ (e : Fin 4240) (d : Fin 1024), x3 (ix2 e d) = A.w e d
  x4 : ∀ (j : Fin 4) (e : Fin 2176), x4 (ix2 j e) = A.cw e j
  x5 : ∀ e : Fin 2176, x5 (ix2 0 e) = A.cb e
  x6 : ∀ h : Fin 16, x6 (ix2 0 h) = A.dtb h
  x7 : ∀ h : Fin 16, x7 (ix2 h 0) = A.dtb h
  x8 : ∀ h : Fin 16, x8 (ix2 0 h) = A.rate h
  x9 : ∀ h : Fin 16, x9 (ix2 h 0) = A.rate h
  x10 : ∀ e : Fin 2048, x10 (ix2 0 e) = A.dd ⟨e.val / 128, by omega⟩
  x11 : ∀ e : Fin 2048, x11 (ix2 0 e) = A.nw e
  x12 : ∀ (o : Fin 1024) (e : Fin 2048), x12 (ix2 o e) = A.wo o e

/-- What the scratch buffers hold before chunk `k` of batch `b`, where it is not the first. -/
structure Held (s : Scr Ideal) : Prop where
  x14 : ∀ (j : Fin 3) (e : Fin 2176), s.x14 (ix2 ⟨j.val, by omega⟩ e) = A.xbc b e (256 * k + j.val - 3)
  x15 : ∀ (h : Fin 16) (n : Fin 64) (p : Fin 128), s.x15 (ix3 h n p) = A.st b h n p (256 * k)
  x16 : ∀ (e : Fin 4224) (d : Fin 1024), s.x16 (ix2 e d) = A.w ⟨e.val, by omega⟩ d
  x17 : ∀ (o : Fin 1024) (e : Fin 2048), s.x17 (ix2 o e) = A.wo o e

variable {A} {b} {k} {i} {x2} {x3} {x4} {x5} {x6} {x7} {x8} {x9} {x10} {x11} {x12}
variable (hO : Ops A b k x2 x3 x4 x5 x6 x7 x8 x9 x10 x11 x12) (hi : (i 1).val = k) {s : Scr Ideal} (hs : k ≠ 0 → Held A b k s)
include hO hi hs

theorem win0_apply (e : Fin 4224) (d : Fin 1024) : win0 i x3 s.x16 (ix2 e d) = A.w ⟨e.val, by omega⟩ d := by
  unfold win0
  split
  · refine Eq.trans ?_ (hO.x3 ⟨e.val, by omega⟩ d)
    refine congrArg x3 (funext fun a => Fin.ext ?_)
    match a with
    | 0 => rfl
    | 1 => rfl
  · rename_i h; exact (hs fun hk => h ((atStart_iff i).mpr (hi.trans hk))).x16 e d
theorem wout0_apply (o : Fin 1024) (e : Fin 2048) : wout0 i x12 s.x17 (ix2 o e) = A.wo o e := by
  unfold wout0
  split
  · exact hO.x12 o e
  · rename_i h; exact (hs fun hk => h ((atStart_iff i).mpr (hi.trans hk))).x17 o e
theorem state0_apply (h : Fin 16) (n : Fin 64) (p : Fin 128) : state0 i s.x15 (ix3 h n p) = A.st b h n p (256 * k) := by
  unfold state0
  split
  · rename_i hc
    have hk : k = 0 := hi.symm.trans ((atStart_iff i).mp hc)
    subst hk
    pointwise [k0_pay3]
    rfl
  · rename_i hc; exact (hs fun hk => hc ((atStart_iff i).mpr (hi.trans hk))).x15 h n p
theorem buf0_apply (j : Fin 3) (e : Fin 2176) : buf0 i s.x14 (ix2 ⟨j.val, by omega⟩ e) = back (A.xbc b e) (3 - j.val) (256 * k) := by
  unfold buf0
  split
  · rename_i hc
    have hk : k = 0 := hi.symm.trans ((atStart_iff i).mp hc)
    subst hk
    refine (put_row s.x14 0 3 _ ⟨j.val, by omega⟩ e).trans ?_
    rw [dif_pos ⟨Nat.zero_le _, by show j.val < 0 + 3; omega⟩, back, if_neg (by omega)]
    pointwise [k0_pay2]
  · rename_i hc
    have hk : k ≠ 0 := fun hk => hc ((atStart_iff i).mpr (hi.trans hk))
    rw [(hs hk).x14, back, if_pos (by omega)]
    congr 1; omega
/-- The rows the convolution looks at: the chunk's behind the three before it. -/
theorem buf1_apply (j : Fin 264) (hj : j.val < 259) (e : Fin 2176) :
    buf1 i x2 x3 s.x14 s.x16 (ix2 j e) = if 3 ≤ 256 * k + j.val then A.xbc b e (256 * k + j.val - 3) else 0 := by
  refine (put_row _ 3 256 _ j e).trans ?_
  by_cases h : 3 ≤ j.val
  · rw [dif_pos ⟨h, by omega⟩, if_pos (by omega)]
    pointwise [k0_pay19, k0_pay15, k0_pay14]
    rw [show 256 * k + j.val - 3 = 256 * k + (j.val - 3) by omega, Args.xbc]
    refine Finset.sum_congr rfl fun d _ => ?_
    rw [hO.x2]
    exact congrArg (_ * ·) ((window_row (win0 i x3 s.x16) 2048 2176 _ e d).trans (win0_apply hO hi hs ⟨2048 + e.val, by omega⟩ d))
  · rw [dif_neg fun h' => h h'.1]
    refine (buf0_apply hO hi hs ⟨j.val, by omega⟩ e).trans ?_
    unfold back
    by_cases h' : 3 ≤ 256 * k + j.val
    · rw [if_pos (by show 3 - j.val ≤ 256 * k; omega), if_pos h']; congr 1; show 256 * k - (3 - j.val) = _; omega
    · rw [if_neg (by show ¬ 3 - j.val ≤ 256 * k; omega), if_neg h']

/-- The point's loads hold what the chunk's value is read from. -/
theorem fits : Fits A b k (loads i x2 x3 x4 x5 x6 x7 x8 x9 x10 x11 x12 s.x14 s.x15 s.x16 s.x17) where
  v3 := hO.x2
  v6 e d := (window_row (win0 i x3 s.x16) 0 2048 _ e d).trans ((win0_apply hO hi hs _ d).trans
    (congrArg (A.w · d) (Fin.ext (Nat.zero_add _))))
  v8 e d := (window_row (win0 i x3 s.x16) 2048 2176 _ e d).trans (win0_apply hO hi hs _ d)
  v10 h d := (window_row x3 4224 16 _ h d).trans (hO.x3 _ d)
  v16 e := (window_row x4 0 1 _ 0 e).trans (hO.x4 0 e)
  v18 r e := by
    refine (window_row (buf1 i x2 x3 s.x14 s.x16) 0 256 _ r e).trans ((buf1_apply hO hi hs _ (by show 0 + r.val < 259; omega) e).trans ?_)
    unfold back
    exact if_congr (by show 3 ≤ 256 * k + (0 + r.val) ↔ _; omega) (congrArg _ (by show 256 * k + (0 + r.val) - 3 = _; omega)) rfl
  v21 e := (window_row x4 1 1 _ 0 e).trans (hO.x4 1 e)
  v23 r e := by
    refine (window_row (buf1 i x2 x3 s.x14 s.x16) 1 256 _ r e).trans ((buf1_apply hO hi hs _ (by show 1 + r.val < 259; omega) e).trans ?_)
    unfold back
    exact if_congr (by show 3 ≤ 256 * k + (1 + r.val) ↔ _; omega) (congrArg _ (by show 256 * k + (1 + r.val) - 3 = _; omega)) rfl
  v27 e := (window_row x4 2 1 _ 0 e).trans (hO.x4 2 e)
  v29 r e := by
    refine (window_row (buf1 i x2 x3 s.x14 s.x16) 2 256 _ r e).trans ((buf1_apply hO hi hs _ (by show 2 + r.val < 259; omega) e).trans ?_)
    unfold back
    exact if_congr (by show 3 ≤ 256 * k + (2 + r.val) ↔ _; omega) (congrArg _ (by show 256 * k + (2 + r.val) - 3 = _; omega)) rfl
  v33 e := (window_row x4 3 1 _ 0 e).trans (hO.x4 3 e)
  v35 r e := by
    refine (window_row (buf1 i x2 x3 s.x14 s.x16) 3 256 _ r e).trans ((buf1_apply hO hi hs _ (by show 3 + r.val < 259; omega) e).trans ?_)
    rw [if_pos (by show 3 ≤ 256 * k + (3 + r.val); omega)]
    exact congrArg _ (by show 256 * k + (3 + r.val) - 3 = _; omega)
  v39 := hO.x5
  v52 := hO.x6
  v64 := hO.x7
  v76 := hO.x8
  v80 := hO.x9
  st h n p := by
    refine Eq.trans (congrArg (state0 i s.x15) (funext fun a => Fin.ext ?_)) (state0_apply hO hi hs h n p)
    match a with
    | 0 => show h.val + 1 * 0 = h.val; omega
    | 1 => show 0 + 1 * n.val = n.val; omega
    | 2 => show 0 + 1 * p.val = p.val; omega
  v623 := hO.x10
  v641 := hO.x11
  v646 := wout0_apply hO hi hs

/-- After the point the scratch buffers hold what the next chunk needs. -/
theorem held_next (hA : A.Finite) : Held A b (k + 1) (next i x2 x3 x4 x5 x6 x7 x8 x9 x10 x11 x12 s) where
  x14 j e := by
    refine (put_row _ 0 3 _ ⟨j.val, by omega⟩ e).trans ?_
    rw [dif_pos ⟨Nat.zero_le _, by show j.val < 0 + 3; omega⟩]
    pointwise [Loads.halo, k0_pay22]
    refine (window_row (buf1 i x2 x3 s.x14 s.x16) 256 3 _ j e).trans ((buf1_apply hO hi hs _ (by show 256 + j.val < 259; omega) e).trans ?_)
    rw [if_pos (by show 3 ≤ 256 * k + (256 + j.val); omega)]
    exact congrArg _ (by show 256 * k + (256 + j.val) - 3 = _; omega)
  x15 h n p := (fits hO hi hs).stNew hA h n p
  x16 := win0_apply hO hi hs
  x17 := wout0_apply hO hi hs

end Cert.KernelIdeal.Layer

end
-- ==== Proof.LayerArgs.lean ====
/- The layer's arguments as read off the nine argument arrays, and the layer's result as an array. -/
module

public import proofs.«01_k».proof.Proof.Layer

@[expose] public section

noncomputable section

namespace Cert.Layer

open Idealize.ShloMosaic

/-- The arguments read off the arrays: the input, the input projection, the convolution's weights and bias, the steps' bias,
    the logarithms of the decay rates, the skip weights, the norm's weights, the output projection. -/
def argsOf (a0 : (⟨3, ![2, 2048, 1024]⟩ : Shape).Idx → EReal) (a1 : (⟨2, ![4240, 1024]⟩ : Shape).Idx → EReal)
    (a2 : (⟨3, ![2176, 1, 4]⟩ : Shape).Idx → EReal) (a3 : (⟨1, ![2176]⟩ : Shape).Idx → EReal)
    (a4 a5 a6 : (⟨1, ![16]⟩ : Shape).Idx → EReal) (a7 : (⟨1, ![2048]⟩ : Shape).Idx → EReal)
    (a8 : (⟨2, ![1024, 2048]⟩ : Shape).Idx → EReal) : Args where
  u b t d := if h : t < 2048 then a0 (ix3 b ⟨t, h⟩ d) else 0
  w e d := a1 (ix2 e d)
  cw e k := a2 (ix3 e 0 k)
  cb e := a3 (ix1 e)
  dtb h := a4 (ix1 h)
  al h := a5 (ix1 h)
  dd h := a6 (ix1 h)
  nw e := a7 (ix1 e)
  wo o e := a8 (ix2 o e)

/-- The layer's result over the 2048 positions. -/
def Args.result (A : Args) : (⟨3, ![2, 2048, 1024]⟩ : Shape).Idx → EReal :=
  fun y => A.out (y 0) (y 1).val (y 2)

/-- Arrays of real entries give real arguments. -/
theorem argsOf_finite {a0 : (⟨3, ![2, 2048, 1024]⟩ : Shape).Idx → EReal} {a1 : (⟨2, ![4240, 1024]⟩ : Shape).Idx → EReal}
    {a2 : (⟨3, ![2176, 1, 4]⟩ : Shape).Idx → EReal} {a3 : (⟨1, ![2176]⟩ : Shape).Idx → EReal}
    {a4 a5 : (⟨1, ![16]⟩ : Shape).Idx → EReal} (a6 : (⟨1, ![16]⟩ : Shape).Idx → EReal) (a7 : (⟨1, ![2048]⟩ : Shape).Idx → EReal)
    (a8 : (⟨2, ![1024, 2048]⟩ : Shape).Idx → EReal)
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) : (argsOf a0 a1 a2 a3 a4 a5 a6 a7 a8).Finite where
  u b t d := by
    show IsReal (if h : t < 2048 then a0 (ix3 b ⟨t, h⟩ d) else 0)
    split
    · exact h0 _
    · exact isReal_zero
  w _ _ := h1 _
  cw _ _ := h2 _
  cb _ := h3 _
  dtb _ := h4 _
  al _ := h5 _

end Cert.Layer

end
-- ==== Proof.IdealResult.lean ====
/- The kernel's result over the extended reals: the arrays the launch finds, the blocks its points read, the scratch buffers
   from point to point, and the array the points write. -/
module

public import proofs.«01_k».proof.Proof.IdealFrame
public import proofs.«01_k».proof.Proof.IdealStep
public import proofs.«01_k».proof.Proof.LayerArgs
public import Idealize.ShloMosaic.Lib.Pipeline.Value

@[expose] public section

set_option maxRecDepth 16384

noncomputable section

namespace Cert.KernelIdeal.Layer

open Idealize.ShloMosaic Idealize.ShloMosaic.TcCoe Idealize.ShloMosaic.Tactic Cert.KernelIdeal.Gen
open Idealize.SL.Sem
open Cert.Layer (Args argsOf back IsReal)

variable (m : (ℓ : Loc nD τ sig) → Buf (Elt Ideal) ℓ) (ρ : Dev nD → PrngReg) (c : Dev nD)

/-- The layer's arguments as launched on core `c`. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## The arrays the launch finds -/

theorem V_v1 (j : Fin 4) (e : Fin 2176) : (V m c main_v1 : Vec Ideal S4x2176 .f32) (ix2 j e) = (args m c).cw e j := by
  simp only [V, hostOps0]
  after_results
  pointwise
  rfl
theorem V_v2 (e : Fin 2176) : (V m c main_v2 : Vec Ideal S1x2176 .f32) (ix2 0 e) = (args m c).cb e := by
  simp only [V, hostOps0]
  after_results
  pointwise
  rfl
theorem V_v3 (h : Fin 16) : (V m c main_v3 : Vec Ideal S1x16 .f32) (ix2 0 h) = (args m c).dtb h := by
  simp only [V, hostOps0]
  after_results
  pointwise
  rfl
theorem V_v4 (h : Fin 16) : (V m c main_v4 : Vec Ideal S16x1 .f32) (ix2 h 0) = (args m c).dtb h := by
  simp only [V, hostOps0]
  after_results
  pointwise
  rfl
theorem V_v7 (h : Fin 16) : (V m c main_v7 : Vec Ideal S1x16 .f32) (ix2 0 h) = (args m c).rate h := by
  simp only [V, hostOps0]
  after_results
  pointwise
  rfl
theorem V_v8 (h : Fin 16) : (V m c main_v8 : Vec Ideal S16x1 .f32) (ix2 h 0) = (args m c).rate h := by
  simp only [V, hostOps0]
  after_results
  pointwise
  rfl
theorem V_v11 (e : Fin 2048) : (V m c main_v11 : Vec Ideal S1x2048 .f32) (ix2 0 e) = (args m c).dd ⟨e.val / 128, by omega⟩ := by
  simp only [V, hostOps0]
  after_results
  pointwise
  rfl
theorem V_v12 (e : Fin 2048) : (V m c main_v12 : Vec Ideal S1x2048 .f32) (ix2 0 e) = (args m c).nw e := by
  simp only [V, hostOps0]
  after_results
  pointwise
  rfl

/-! ## The blocks -/

/-- A point's coordinates: the batch and the chunk. -/
theorem coords_at (t : Fin cfg0.N) : (grid0.coords t 0).val = t.val / 8 ∧ (grid0.coords t 1).val = t.val % 8 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  omega

/-- Of a window whose block index is zero at every point the block is its array. -/
theorem emb_whole (w : Pipeline.Window sig grid0) (t : Fin grid0.N) (h : ∀ a, w.index t a = 0)
    (y : (w.xblock (grid0.coords t)).Idx) (a : Fin w.shape.rank) : ((w.rect t).emb y a : ℕ) = y a :=
  w.rect_emb_val_of_index_zero t a (h a) y

/-- The input's block at a point: the batch's chunk. -/
theorem iblk_u (t : Fin cfg0.N) (r : Fin 256) (d : Fin 1024) :
    (iblk m c 0 t : Vec Ideal S1x256x1024 .f32) (ix3 0 r d)
      = (args m c).u ⟨t.val / 8, by have := Nat.lt_of_lt_of_eq t.isLt N_0; omega⟩ (256 * (t.val % 8) + r.val) d := by
  have ht : t.val < 16 := Nat.lt_of_lt_of_eq t.isLt N_0
  obtain ⟨e0, e1⟩ := coords_at t
  have hr := r.isLt
  show V m c main_arg0 ((win0_0.rect t).emb (ix3 0 r d : S1x256x1024.Idx)) = dite _ _ _
  rw [dif_pos (by omega), V_main_arg0]
  refine congrArg (m ((c : Thread nD τ).loc main_arg0)) (funext fun a => Fin.ext ?_)
  refine (win0_0.rect_emb_val t (ix3 0 r d : S1x256x1024.Idx) a).trans ?_
  match a with
  | 0 => show (BitVec.ofNat 32 (grid0.coords t 0).val).toNat * 1 + 0 = t.val / 8
         rw [e0, BitVec.toNat_ofNat]; omega
  | 1 => show (BitVec.ofNat 32 (grid0.coords t 1).val).toNat * 256 + r.val = 256 * (t.val % 8) + r.val
         rw [e1, BitVec.toNat_ofNat]; omega
  | 2 => show 0 * 1024 + d.val = d.val
         omega

/-- The blocks at a point hold the arguments. -/
theorem ops (t : Fin cfg0.N) : Ops (args m c) ⟨t.val / 8, by have := Nat.lt_of_lt_of_eq t.isLt N_0; omega⟩ (t.val % 8)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) where
  x2 r d := iblk_u m c t r d
  x3 e d := (congrArg (V m c main_arg1) (funext fun a => Fin.ext (emb_whole win0_1 t (fun a => by fin_cases a <;> rfl) (ix2 e d : S4240x1024.Idx) a))).trans
    (congrFun (V_main_arg1 m c) _)
  x4 j e := (congrArg (V m c main_v1) (funext fun a => Fin.ext (emb_whole win0_2 t (fun a => by fin_cases a <;> rfl) (ix2 j e : S4x2176.Idx) a))).trans
    (V_v1 m c j e)
  x5 e := (congrArg (V m c main_v2) (funext fun a => Fin.ext (emb_whole win0_3 t (fun a => by fin_cases a <;> rfl) (ix2 0 e : S1x2176.Idx) a))).trans
    (V_v2 m c e)
  x6 h := (congrArg (V m c main_v3) (funext fun a => Fin.ext (emb_whole win0_4 t (fun a => by fin_cases a <;> rfl) (ix2 0 h : S1x16.Idx) a))).trans
    (V_v3 m c h)
  x7 h := (congrArg (V m c main_v4) (funext fun a => Fin.ext (emb_whole win0_5 t (fun a => by fin_cases a <;> rfl) (ix2 h 0 : S16x1.Idx) a))).trans
    (V_v4 m c h)
  x8 h := (congrArg (V m c main_v7) (funext fun a => Fin.ext (emb_whole win0_6 t (fun a => by fin_cases a <;> rfl) (ix2 0 h : S1x16.Idx) a))).trans
    (V_v7 m c h)
  x9 h := (congrArg (V m c main_v8) (funext fun a => Fin.ext (emb_whole win0_7 t (fun a => by fin_cases a <;> rfl) (ix2 h 0 : S16x1.Idx) a))).trans
    (V_v8 m c h)
  x10 e := (congrArg (V m c main_v11) (funext fun a => Fin.ext (emb_whole win0_8 t (fun a => by fin_cases a <;> rfl) (ix2 0 e : S1x2048.Idx) a))).trans
    (V_v11 m c e)
  x11 e := (congrArg (V m c main_v12) (funext fun a => Fin.ext (emb_whole win0_9 t (fun a => by fin_cases a <;> rfl) (ix2 0 e : S1x2048.Idx) a))).trans
    (V_v12 m c e)
  x12 o e := (congrArg (V m c main_arg8) (funext fun a => Fin.ext (emb_whole win0_10 t (fun a => by fin_cases a <;> rfl) (ix2 o e : S1024x2048.Idx) a))).trans
    (congrFun (V_main_arg8 m c) _)

/-! ## From point to point -/

variable (hA : (args m c).Finite)
include hA

/-- Before each point that is not a batch's first the scratch buffers hold what its chunk needs. -/
theorem held : ∀ (n : ℕ) (hn : n < 16), n % 8 ≠ 0 → Held (args m c) ⟨n / 8, by omega⟩ (n % 8) (scrAt m c n)
  | 0, _, h => absurd rfl h
  | n + 1, hn, h => by
    have hs := scrAt_succ m c (⟨n, by show n < grid0.N; exact Nat.lt_of_lt_of_eq (by omega) N_0.symm⟩ : Fin cfg0.N)
    have hnext := held_next (ops m c (⟨n, Nat.lt_of_lt_of_eq (by omega) N_0.symm⟩ : Fin cfg0.N))
      (coords_at _).2 (s := scrAt m c n) (held n (by omega)) hA
    rw [show (n + 1) % 8 = n % 8 + 1 by omega, show (⟨(n + 1) / 8, by omega⟩ : Fin 2) = ⟨n / 8, by omega⟩ from Fin.ext (by show (n + 1) / 8 = n / 8; omega)]
    exact hs ▸ hnext

/-- A point's block of the result. -/
theorem point_value (t : Fin cfg0.N) (r : Fin 256) (o : Fin 1024) : pointOut m c t (ix3 0 r o)
    = (args m c).out ⟨t.val / 8, by have := Nat.lt_of_lt_of_eq t.isLt N_0; omega⟩ (256 * (t.val % 8) + r.val) o :=
  (fits (ops m c t) (coords_at t).2 (s := scrAt m c t.val)
    (held m c hA t.val (Nat.lt_of_lt_of_eq t.isLt N_0))).out hA r o

/-- Where an entry of the result's block at a point lies in the result. -/
theorem emb_out (t : Fin cfg0.N) (r : Fin 256) (o : Fin 1024) : (win0_11.rect t).emb (ix3 0 r o : S1x256x1024.Idx)
    = (ix3 ⟨t.val / 8, by have := Nat.lt_of_lt_of_eq t.isLt N_0; omega⟩ ⟨256 * (t.val % 8) + r.val, by omega⟩ o : S2x2048x1024.Idx) := by
  have ht : t.val < 16 := Nat.lt_of_lt_of_eq t.isLt N_0
  obtain ⟨e0, e1⟩ := coords_at t
  refine funext fun a => Fin.ext ?_
  refine (win0_11.rect_emb_val t (ix3 0 r o : S1x256x1024.Idx) a).trans ?_
  match a with
  | 0 => show (BitVec.ofNat 32 (grid0.coords t 0).val).toNat * 1 + 0 = t.val / 8
         rw [e0, BitVec.toNat_ofNat]; omega
  | 1 => show (BitVec.ofNat 32 (grid0.coords t 1).val).toNat * 256 + r.val = 256 * (t.val % 8) + r.val
         rw [e1, BitVec.toNat_ofNat]; omega
  | 2 => show 0 * 1024 + o.val = o.val
         omega

/-- What a point writes back is its block of the layer's result. -/
theorem flushed_result (t : Fin cfg0.N) :
    (dats m 0 c).flushed 11 t = ((cfg0.win 11).blk t).view.read (Elt Ideal) ((args m c).result : Buf (Elt Ideal) ((c : Thread nD τ).loc main_v13)) := by
  have h : ∀ y : S1x256x1024.Idx, pointOut m c t y = (args m c).result ((win0_11.rect t).emb y) := fun y => by
    obtain ⟨r, o, rfl⟩ : ∃ (r : Fin 256) (o : Fin 1024), y = ix3 0 r o := by
      idx_vars y
      exact ⟨y1, y2, by rw [Subsingleton.elim y0 0]⟩
    rw [point_value m c hA t r o, emb_out m c hA t r o]
    rfl
  exact funext h

/-- Every entry of the result is in some point's block. -/
theorem covered (i : S2x2048x1024.Idx) : ∃ t : Fin cfg0.N, (cfg0.win 11).flush t = true ∧ i ∈ ((cfg0.win 11).blk t).view.set := by
  obtain ⟨b, t, o, rfl⟩ : ∃ (b : Fin 2) (t : Fin 2048) (o : Fin 1024), i = ix3 b t o := by
    idx_vars i
    exact ⟨i0, i1, i2, rfl⟩
  have hb := b.isLt
  have ht := t.isLt
  have hn : 8 * b.val + t.val / 256 < 16 := by omega
  refine ⟨⟨8 * b.val + t.val / 256, Nat.lt_of_lt_of_eq hn N_0.symm⟩, flush0_11 _, ?_⟩
  have h := ((cfg0.win 11).blk ⟨8 * b.val + t.val / 256, Nat.lt_of_lt_of_eq hn N_0.symm⟩).view.emb_mem_set
    (ix3 0 ⟨t.val % 256, by omega⟩ o : S1x256x1024.Idx)
  refine (congrArg (· ∈ _) ?_).mp h
  refine (emb_out m c hA _ _ _).trans ?_
  refine funext fun a => Fin.ext ?_
  match a with
  | 0 => show (8 * b.val + t.val / 256) / 8 = b.val; omega
  | 1 => show 256 * ((8 * b.val + t.val / 256) % 8) + t.val % 256 = t.val; omega
  | 2 => rfl

/-- The array the points leave is the layer's result. -/
theorem final : (dats m 0 c).arrAt 11 cfg0.N = ((args m c).result : Buf (Elt Ideal) ((c : Thread nD τ).loc main_v13)) :=
  (dats m 0 c).arrAt_eq_of_cover 11 _ (fun t _ => flushed_result m c hA t) (covered m c hA)

omit hA in
/-- The run: the result is the layer's, the arguments are unchanged. -/
theorem run_value (hA : ∀ c : Dev nD, (args m c).Finite) :
    θ_run defs (onTc (τ := τ) (main (F := Ideal))) ⟨m, fun _ => 0, ρ⟩ (fun r => ∀ c : Dev nD,
      r.2.mem ((c.tc : Thread nD τ).loc main_v13) = (args m c).result
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).trans (final m c (hA c)), h.2.1 c⟩)
    (θ_run_and ((θ_run defs _ _).mono (fun _ h c => (h.1 c).1 11) (run_main m ρ)) (frame m ρ))

end Cert.KernelIdeal.Layer

end
-- ==== Proof.ReferenceValue.lean ====
/- The reference's result over the extended reals: what its scan starts from, the scan position by position, and what is
   made of it. -/
module

public import proofs.«01_k».proof.Proof.Gen.ReferenceIdeal.Run
public import proofs.«01_k».proof.Proof.LayerArgs
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Layer

open Idealize.ShloMosaic Idealize.ShloMosaic.TcCoe Idealize.ShloMosaic.Tactic Idealize.ShloMosaic.StableHlo
open Idealize.SL.Sem
open Cert.ReferenceIdeal.Gen Cert.ReferenceIdeal.Value
open Cert.Layer (Args argsOf back IsReal silu softplus)

variable (m : (ℓ : Loc nD τ sig) → Buf (Elt Ideal) ℓ) (ρ : Dev nD → PrngReg) (c : Dev nD)

/-- The layer's arguments as launched on core `c`. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ## What the scan starts from -/

/-- The steps' activation, as the program spells it. -/
def softplusT (v : FVec Ideal S2x2048x16 .f32) : FVec Ideal S2x2048x16 .f32 :=
  select (cmpf .une (subf v (broadcastInDim S2x2048x16 ![] bcast_S_S2x2048x16 (constant S_ .f32 0x00000000#32))) (subf v (broadcastInDim S2x2048x16 ![] bcast_S_S2x2048x16 (constant S_ .f32 0x00000000#32))))
    (addf v (broadcastInDim S2x2048x16 ![] bcast_S_S2x2048x16 (constant S_ .f32 0x00000000#32)))
    (addf (maximumf v (broadcastInDim S2x2048x16 ![] bcast_S_S2x2048x16 (constant S_ .f32 0x00000000#32)))
      (Host.log1p (Host.exp (Host.negf (Host.absf (subf v (broadcastInDim S2x2048x16 ![] bcast_S_S2x2048x16 (constant S_ .f32 0x00000000#32))))))))
/-- The convolution's activation, as the program spells it. -/
def siluT (v : FVec Ideal S2x2048x2176 .f32) : FVec Ideal S2x2048x2176 .f32 :=
  mulf v (Host.divf (broadcastInDim S2x2048x2176 ![] bcast_S_S2x2048x2176 (constant S_ .f32 0x3F800000#32))
    (addf (broadcastInDim S2x2048x2176 ![] bcast_S_S2x2048x2176 (constant S_ .f32 0x3F800000#32)) (Host.exp (Host.negf v))))

theorem softplusT_apply (v : FVec Ideal S2x2048x16 .f32) (b : Fin 2) (t : Fin 2048) (h : Fin 16) :
    softplusT v (ix3 b t h) = softplus (v (ix3 b t h)) := by
  pointwise [softplusT]
  rw [if_neg fun h => h rfl]
  rfl
theorem siluT_apply (v : FVec Ideal S2x2048x2176 .f32) (b : Fin 2) (t : Fin 2048) (e : Fin 2176) :
    siluT v (ix3 b t e) = silu (v (ix3 b t e)) := by
  pointwise [siluT]
  rfl

/-- Three rows of a word's value before the first position. -/
def padT (v : FVec Ideal S2x2048x2176 .f32) (z : Vec Ideal S_ .i32) : FVec Ideal S2x2051x2176 .f32 :=
  pad S2x2051x2176 ![0, 3, 0] ![0, 0, 0] ![0, 0, 0] v (sitofp .f32 z) pads_S2x2048x2176_S2x2051x2176_000_300_000 h_S_

theorem padT_apply (v : FVec Ideal S2x2048x2176 .f32) (b : Fin 2) (t : Fin 2051) (e : Fin 2176) :
    padT v (constantI S_ 32 0#32) (ix3 b t e) = if h : 3 ≤ t.val then v (ix3 b ⟨t.val - 3, by omega⟩ e) else 0 := by
  pointwise [padT]
  by_cases h : 3 ≤ t.val
  · rw [dif_pos ⟨h, by omega⟩, dif_pos h]
  · rw [dif_neg fun h' => h h'.1, dif_neg h]
    show (((0#32 : BitVec 32).toInt : ℝ) : EReal) = 0
    simp

section
variable (X : Valuation τ sig (Elt Ideal))

theorem ops1_v7 : after hostOps0_1 X (Proc.devRef .tc main_v7) = softplusT (X (Proc.devRef .tc main_v6)) := by
  after_results
  rfl
theorem ops3_v8 : after hostOps0_3 X (Proc.devRef .tc main_v8) = padT (X (Proc.devRef .tc main_v2)) (X (Proc.devRef .tc main_c)) := by
  after_results
  rfl
theorem ops4_v40 (xp : FVec Ideal S2x2051x2176 .f32) (w : FVec Ideal S2176x1x4 .f32) (cb : FVec Ideal S2176 .f32)
    (h8 : X (Proc.devRef .tc main_v8) = xp) (h2 : X (Proc.devRef .tc main_arg2) = w) (h3 : X (Proc.devRef .tc main_arg3) = cb)
    (b : Fin 2) (t : Fin 2048) (e : Fin 2176) :
    (after hostOps0_4 X (Proc.devRef .tc main_v40) : FVec Ideal S2x2048x2176 .f32) (ix3 b t e)
      = xp (ix3 b ⟨t.val, by omega⟩ e) * w (ix3 e 0 0) + xp (ix3 b ⟨1 + t.val, by omega⟩ e) * w (ix3 e 0 1)
        + xp (ix3 b ⟨2 + t.val, by omega⟩ e) * w (ix3 e 0 2) + xp (ix3 b ⟨3 + t.val, by omega⟩ e) * w (ix3 e 0 3) + cb (ix1 e) := by
  after_results
  rw [h8, h2, h3]
  pointwise
theorem ops5_v41 : after hostOps0_5 X (Proc.devRef .tc main_v41) = siluT (X (Proc.devRef .tc main_v40)) := by
  after_results
  rfl
theorem ops6_dt (v : FVec Ideal S2x2048x16 .f32) (hv : X (Proc.devRef .tc main_v7) = v) (b : Fin 2) (t : Fin 2048) (h : Fin 16) :
    (after hostOps0_6 X (Proc.devRef .tc main_v54_0) : FVec Ideal S2048x2x16 .f32) (ix3 t b h) = v (ix3 b t h) := by
  after_results
  rw [hv]
  pointwise [id]
theorem ops6_x (v : FVec Ideal S2x2048x2176 .f32) (hv : X (Proc.devRef .tc main_v41) = v) (b : Fin 2) (t : Fin 2048) (h : Fin 16) (p : Fin 128) :
    (after hostOps0_6 X (Proc.devRef .tc main_v54_1) : FVec Ideal S2048x2x16x128 .f32) (ix4 t b h p) = v (ix3 b t ⟨128 * h.val + p.val, by omega⟩) := by
  after_results
  rw [hv]
  pointwise [id]
  exact congrArg (fun e => v (ix3 b t e)) (Fin.ext (by show h.val * 128 + p.val = 128 * h.val + p.val; omega))
theorem ops6_bm (v : FVec Ideal S2x2048x2176 .f32) (hv : X (Proc.devRef .tc main_v41) = v) (b : Fin 2) (t : Fin 2048) (n : Fin 64) :
    (after hostOps0_6 X (Proc.devRef .tc main_v54_2) : FVec Ideal S2048x2x64 .f32) (ix3 t b n) = v (ix3 b t ⟨2048 + n.val, by omega⟩) := by
  after_results
  rw [hv]
  pointwise [id]
theorem ops6_cm (v : FVec Ideal S2x2048x2176 .f32) (hv : X (Proc.devRef .tc main_v41) = v) (b : Fin 2) (t : Fin 2048) (n : Fin 64) :
    (after hostOps0_6 X (Proc.devRef .tc main_v54_3) : FVec Ideal S2048x2x64 .f32) (ix3 t b n) = v (ix3 b t ⟨2112 + n.val, by omega⟩) := by
  after_results
  rw [hv]
  pointwise [id]
theorem ops6_rate (v : FVec Ideal S16 .f32) (hv : X (Proc.devRef .tc main_arg5) = v) (h : Fin 16) :
    (after hostOps0_6 X (Proc.devRef .tc main_v54_4) : FVec Ideal S16 .f32) (ix1 h) = -(Ideal.exp (v (ix1 h))) := by
  after_results
  rw [hv]
  pointwise [id]
theorem ops6_skip : after hostOps0_6 X (Proc.devRef .tc main_v54_5) = X (Proc.devRef .tc main_arg6) := by
  after_results
  rfl
theorem ops6_ctr : after hostOps0_6 X (Proc.devRef .tc main_v54_6) = fun _ => (0#32 : BitVec 32) := by
  after_results
  rfl
theorem ops6_state (b : Fin 2) (h : Fin 16) (p : Fin 128) (n : Fin 64) :
    (after hostOps0_6 X (Proc.devRef .tc main_v54_7) : FVec Ideal S2x16x128x64 .f32) (ix4 b h p n) = (0 : EReal) := by
  after_results
  pointwise [id]
end

section
variable (a0 : FVec Ideal S2x2048x1024 .f32) (a1 : FVec Ideal S4240x1024 .f32) (a2 : FVec Ideal S2176x1x4 .f32) (a3 : FVec Ideal S2176 .f32)
    (a4 a5 a6 : FVec Ideal S16 .f32) (a7 : FVec Ideal S2048 .f32) (a8 : FVec Ideal S1024x2048 .f32) (b : Fin 2) (t : Fin 2048)

theorem u_argsOf (d : Fin 1024) : (argsOf a0 a1 a2 a3 a4 a5 a6 a7 a8).u b t.val d = a0 (ix3 b t d) := dif_pos t.isLt
theorem xbc_argsOf (e : Fin 2176) : (argsOf a0 a1 a2 a3 a4 a5 a6 a7 a8).xbc b e t.val = ∑ d, a0 (ix3 b t d) * a1 (ix2 ⟨2048 + e.val, by omega⟩ d) :=
  Finset.sum_congr rfl fun d _ => by rw [u_argsOf]; rfl
theorem dtr_argsOf (h : Fin 16) : (argsOf a0 a1 a2 a3 a4 a5 a6 a7 a8).dtr b t.val h = ∑ d, a0 (ix3 b t d) * a1 (ix2 ⟨2048 + (2176 + h.val), by omega⟩ d) :=
  Finset.sum_congr rfl fun d _ => by
    rw [u_argsOf, show (⟨2048 + (2176 + h.val), by omega⟩ : Fin 4240) = ⟨4224 + h.val, by omega⟩ from Fin.ext (by show 2048 + (2176 + h.val) = 4224 + h.val; omega)]
    rfl
theorem z_argsOf (e : Fin 2048) : (argsOf a0 a1 a2 a3 a4 a5 a6 a7 a8).z b t.val e = ∑ d, a0 (ix3 b t d) * a1 (ix2 ⟨e.val, by omega⟩ d) :=
  Finset.sum_congr rfl fun d _ => by rw [u_argsOf]; rfl
end

theorem ops0_v2 (X : Valuation τ sig (Elt Ideal)) (a0 : FVec Ideal S2x2048x1024 .f32) (a1 : FVec Ideal S4240x1024 .f32)
    (h0 : X (Proc.devRef .tc main_arg0) = a0) (h1 : X (Proc.devRef .tc main_arg1) = a1) (b : Fin 2) (t : Fin 2048) (e : Fin 2176) :
    (after hostOps0 X (Proc.devRef .tc main_v2) : FVec Ideal S2x2048x2176 .f32) (ix3 b t e)
      = ∑ d, a0 (ix3 b t d) * a1 (ix2 ⟨2048 + e.val, by omega⟩ d) := by
  after_results
  rw [h0, h1]
  pointwise
theorem ops0_v6 (X : Valuation τ sig (Elt Ideal)) (a0 : FVec Ideal S2x2048x1024 .f32) (a1 : FVec Ideal S4240x1024 .f32) (a4 : FVec Ideal S16 .f32)
    (h0 : X (Proc.devRef .tc main_arg0) = a0) (h1 : X (Proc.devRef .tc main_arg1) = a1) (h4 : X (Proc.devRef .tc main_arg4) = a4)
    (b : Fin 2) (t : Fin 2048) (h : Fin 16) :
    (after hostOps0 X (Proc.devRef .tc main_v6) : FVec Ideal S2x2048x16 .f32) (ix3 b t h)
      = (∑ d, a0 (ix3 b t d) * a1 (ix2 ⟨2048 + (2176 + h.val), by omega⟩ d)) + a4 (ix1 h) := by
  after_results
  rw [h0, h1, h4]
  pointwise

/-- The convolution's input. -/
theorem first_v2 (b : Fin 2) (t : Fin 2048) (e : Fin 2176) :
    (after hostOps0 (launchContents m c) (Proc.devRef .tc main_v2) : FVec Ideal S2x2048x2176 .f32) (ix3 b t e) = (args m c).xbc b e t.val :=
  (ops0_v2 _ _ _ rfl rfl b t e).trans (xbc_argsOf _ _ _ _ _ _ _ _ _ b t e).symm
/-- The step sizes before their activation. -/
theorem first_v6 (b : Fin 2) (t : Fin 2048) (h : Fin 16) :
    (after hostOps0 (launchContents m c) (Proc.devRef .tc main_v6) : FVec Ideal S2x2048x16 .f32) (ix3 b t h) = (args m c).dtr b t.val h + (args m c).dtb h :=
  (ops0_v6 _ _ _ _ rfl rfl rfl b t h).trans (congrArg (· + (args m c).dtb h) (dtr_argsOf _ _ _ _ _ _ _ _ _ b t h).symm)

/-- The padded input some rows on is the input some positions back. -/
theorem padded (v : FVec Ideal S2x2048x2176 .f32) (f : ℕ → EReal) (b : Fin 2) (e : Fin 2176)
    (hv : ∀ t : Fin 2048, v (ix3 b t e) = f t.val) (t : Fin 2048) (r : Fin 2051) (k : ℕ) (hk : k ≤ 3) (hr : r.val + k = t.val + 3) :
    padT v (constantI S_ 32 0#32) (ix3 b r e) = back f k t.val := by
  rw [padT_apply, back]
  by_cases h : k ≤ t.val
  · rw [dif_pos (by omega), if_pos h, hv]
    exact congrArg f (by show r.val - 3 = t.val - k; omega)
  · rw [dif_neg (by omega), if_neg h]

/-- The convolution before its activation, at the loop's entry. -/
theorem pre_value (b : Fin 2) (t : Fin 2048) (e : Fin 2176) :
    (afterL [hostOps0, hostOps0_1, hostOps0_2, hostOps0_3, hostOps0_4] (launchContents m c) (Proc.devRef .tc main_v40) : FVec Ideal S2x2048x2176 .f32) (ix3 b t e)
      = (args m c).pre b t.val e := by
  simp only [afterL_cons, afterL_nil]
  have h2 : after hostOps0_2 (after hostOps0_1 (after hostOps0 (launchContents m c))) (Proc.devRef .tc main_v2)
      = after hostOps0 (launchContents m c) (Proc.devRef .tc main_v2) :=
    (after_of_writes_sub hostOps0_2 _ hostOps0_2_writes (by decide +kernel)).trans (after_of_writes_sub hostOps0_1 _ hostOps0_1_writes (by decide +kernel))
  have hc : after hostOps0_2 (after hostOps0_1 (after hostOps0 (launchContents m c))) (Proc.devRef .tc main_c) = constantI S_ 32 0#32 := by
    after_results
  refine (ops4_v40 (after hostOps0_3 (after hostOps0_2 (after hostOps0_1 (after hostOps0 (launchContents m c))))) _ _ _
    (ops3_v8 _) (by rw [keep_main_arg2_hostOps0_3, keep_main_arg2_hostOps0_2, keep_main_arg2_hostOps0_1, keep_main_arg2_hostOps0])
    (by rw [keep_main_arg3_hostOps0_3, keep_main_arg3_hostOps0_2, keep_main_arg3_hostOps0_1, keep_main_arg3_hostOps0]) b t e).trans ?_
  rw [h2, hc]
  have hv := fun t => first_v2 m c b t e
  rw [padded _ _ b e hv t _ 3 (by omega) rfl, padded _ _ b e hv t _ 2 (by omega) (by show 1 + t.val + 2 = _; omega),
    padded _ _ b e hv t _ 1 (by omega) (by show 2 + t.val + 1 = _; omega), padded _ _ b e hv t _ 0 (by omega) (by show 3 + t.val + 0 = _; omega)]
  rw [Args.pre, mul_comm ((args m c).cw e 0), mul_comm ((args m c).cw e 1), mul_comm ((args m c).cw e 2), mul_comm ((args m c).cw e 3)]
  rfl

/-- The activated convolution, before the operations that cut it. -/
theorem conv_value (b : Fin 2) (t : Fin 2048) (e : Fin 2176) :
    (afterL [hostOps0, hostOps0_1, hostOps0_2, hostOps0_3, hostOps0_4, hostOps0_5] (launchContents m c) (Proc.devRef .tc main_v41) : FVec Ideal S2x2048x2176 .f32) (ix3 b t e)
      = (args m c).conv b t.val e := by
  have h := pre_value m c b t e
  simp only [afterL_cons, afterL_nil] at h ⊢
  rw [ops5_v41]
  exact (siluT_apply _ b t e).trans (congrArg silu h)

theorem dt_value (b : Fin 2) (t : Fin 2048) (h : Fin 16) :
    (afterL [hostOps0, hostOps0_1, hostOps0_2, hostOps0_3, hostOps0_4, hostOps0_5] (launchContents m c) (Proc.devRef .tc main_v7) : FVec Ideal S2x2048x16 .f32) (ix3 b t h)
      = (args m c).dt b t.val h := by
  simp only [afterL_cons, afterL_nil]
  rw [after_of_writes_sub hostOps0_5 _ hostOps0_5_writes (by decide +kernel), after_of_writes_sub hostOps0_4 _ hostOps0_4_writes (by decide +kernel),
    after_of_writes_sub hostOps0_3 _ hostOps0_3_writes (by decide +kernel), after_of_writes_sub hostOps0_2 _ hostOps0_2_writes (by decide +kernel), ops1_v7]
  exact (softplusT_apply _ b t h).trans (congrArg softplus (first_v6 m c b t h))

/-- What the scan carries before position `k`. -/
structure Scan (A : Args) (k : ℕ) (V : Valuation τ sig (Elt Ideal)) : Prop where
  dt : ∀ (t : Fin 2048) (b : Fin 2) (h : Fin 16), (V (Proc.devRef .tc main_v54_0) : FVec Ideal S2048x2x16 .f32) (ix3 t b h) = A.dt b t.val h
  x : ∀ (t : Fin 2048) (b : Fin 2) (h : Fin 16) (p : Fin 128), (V (Proc.devRef .tc main_v54_1) : FVec Ideal S2048x2x16x128 .f32) (ix4 t b h p) = A.x b t.val h p
  bm : ∀ (t : Fin 2048) (b : Fin 2) (n : Fin 64), (V (Proc.devRef .tc main_v54_2) : FVec Ideal S2048x2x64 .f32) (ix3 t b n) = A.bm b t.val n
  cm : ∀ (t : Fin 2048) (b : Fin 2) (n : Fin 64), (V (Proc.devRef .tc main_v54_3) : FVec Ideal S2048x2x64 .f32) (ix3 t b n) = A.cm b t.val n
  rate : ∀ h : Fin 16, (V (Proc.devRef .tc main_v54_4) : FVec Ideal S16 .f32) (ix1 h) = A.rate h
  skip : ∀ h : Fin 16, (V (Proc.devRef .tc main_v54_5) : FVec Ideal S16 .f32) (ix1 h) = A.dd h
  ctr : V (Proc.devRef .tc main_v54_6) = fun _ => BitVec.ofNat 32 k
  st : ∀ (b : Fin 2) (h : Fin 16) (p : Fin 128) (n : Fin 64), (V (Proc.devRef .tc main_v54_7) : FVec Ideal S2x16x128x64 .f32) (ix4 b h p n) = A.st b h n p k
  ys : ∀ (t : Fin 2048) (b : Fin 2) (h : Fin 16) (p : Fin 128), t.val < k →
    (V (Proc.devRef .tc main_v54_8) : FVec Ideal S2048x2x16x128 .f32) (ix4 t b h p) = A.y b t.val h p + A.dd h * A.x b t.val h p

/-- The scan starts from a zero state. -/
theorem scan_start : Scan (args m c) 0 (entryContents preI m c) where
  dt t b h := (ops6_dt _ _ rfl b t h).trans (dt_value m c b t h)
  x t b h p := (ops6_x _ _ rfl b t h p).trans (conv_value m c b t _)
  bm t b n := (ops6_bm _ _ rfl b t n).trans (conv_value m c b t _)
  cm t b n := (ops6_cm _ _ rfl b t n).trans (conv_value m c b t _)
  rate h := (ops6_rate _ _ rfl h).trans (by
    rw [keep_main_arg5_hostOps0_5, keep_main_arg5_hostOps0_4, keep_main_arg5_hostOps0_3, keep_main_arg5_hostOps0_2, keep_main_arg5_hostOps0_1, keep_main_arg5_hostOps0]
    rfl)
  skip h := (congrFun (ops6_skip _) _).trans (by
    rw [keep_main_arg6_hostOps0_5, keep_main_arg6_hostOps0_4, keep_main_arg6_hostOps0_3, keep_main_arg6_hostOps0_2, keep_main_arg6_hostOps0_1, keep_main_arg6_hostOps0]
    rfl)
  ctr := ops6_ctr _
  st b h p n := ops6_state _ b h p n
  ys t b h p ht := absurd ht (Nat.not_lt_zero _)

/-! ## One position of the scan -/

/-- The state after a position, as the program spells it. -/
def stateT (st : FVec Ideal S2x16x128x64 .f32) (dt : FVec Ideal S2x16 .f32) (rate : FVec Ideal S16 .f32) (x : FVec Ideal S2x16x128 .f32)
    (bm : FVec Ideal S2x64 .f32) : FVec Ideal S2x16x128x64 .f32 :=
  addf (mulf st (broadcastInDim S2x16x128x64 ![0, 1, 2, 3] bcast_S2x16x1x1_S2x16x128x64_0_1_2_3 (broadcastInDim S2x16x1x1 ![0, 1] bcast_S2x16_S2x16x1x1_0_1 (Host.exp (mulf dt (broadcastInDim S2x16 ![0, 1] bcast_S1x16_S2x16_0_1 (broadcastInDim S1x16 ![1] bcast_S16_S1x16_1 rate))))))) (mulf (broadcastInDim S2x16x128x64 ![0, 1, 2, 3] bcast_S2x16x128x1_S2x16x128x64_0_1_2_3 (mulf (broadcastInDim S2x16x128x1 ![0, 1, 2, 3] bcast_S2x16x1x1_S2x16x128x1_0_1_2_3 (broadcastInDim S2x16x1x1 ![0, 1] bcast_S2x16_S2x16x1x1_0_1 dt)) (broadcastInDim S2x16x128x1 ![0, 1, 2] bcast_S2x16x128_S2x16x128x1_0_1_2 x))) (broadcastInDim S2x16x128x64 ![0, 1, 2, 3] bcast_S2x1x1x64_S2x16x128x64_0_1_2_3 (broadcastInDim S2x1x1x64 ![0, 3] bcast_S2x64_S2x1x1x64_0_3 bm)))
/-- A position's output, as the program spells it. -/
def rowT (st : FVec Ideal S2x16x128x64 .f32) (cm : FVec Ideal S2x64 .f32) (skip : FVec Ideal S16 .f32) (x : FVec Ideal S2x16x128 .f32) :
    FVec Ideal S1x2x16x128 .f32 :=
  broadcastInDim S1x2x16x128 ![1, 2, 3] bcast_S2x16x128_S1x2x16x128_1_2_3 (addf (Host.dotGeneral dot_S2x16x128x64_S2x64_S2x16x128_3_1_12_n_0_0 none st cm) (mulf (broadcastInDim S2x16x128 ![0, 1, 2] bcast_S1x16x1_S2x16x128_0_1_2 (broadcastInDim S1x16x1 ![1] bcast_S16_S1x16x1_1 skip)) x))

theorem stateT_apply (st : FVec Ideal S2x16x128x64 .f32) (dt : FVec Ideal S2x16 .f32) (rate : FVec Ideal S16 .f32) (x : FVec Ideal S2x16x128 .f32)
    (bm : FVec Ideal S2x64 .f32) (b : Fin 2) (h : Fin 16) (p : Fin 128) (n : Fin 64) :
    stateT st dt rate x bm (ix4 b h p n)
      = st (ix4 b h p n) * Ideal.exp (dt (ix2 b h) * rate (ix1 h)) + (dt (ix2 b h) * x (ix3 b h p)) * bm (ix2 b n) := by
  pointwise [stateT]
theorem rowT_apply (st : FVec Ideal S2x16x128x64 .f32) (cm : FVec Ideal S2x64 .f32) (skip : FVec Ideal S16 .f32) (x : FVec Ideal S2x16x128 .f32)
    (q : Fin 1) (b : Fin 2) (h : Fin 16) (p : Fin 128) :
    rowT st cm skip x (ix4 q b h p) = (∑ n, st (ix4 b h p n) * cm (ix2 b n)) + skip (ix1 h) * x (ix3 b h p) := by
  pointwise [rowT]

/-! A row of an array cut at a position, and a row put in. -/

section
variable (k : Fin 2048) (s3 : Fin 3 → ℤ) (h3 : ∀ a, s3 a = ((![k.val, 0, 0] : Fin 3 → ℕ) a : ℤ))
    (s4 : Fin 4 → ℤ) (h4 : ∀ a, s4 a = ((![k.val, 0, 0, 0] : Fin 4 → ℕ) a : ℤ))
include h3 in
theorem row16 (v : FVec Ideal S2048x2x16 .f32) (b : Fin 2) (h : Fin 16) :
    shapeCast S2x16 (Host.dynamicSlice S1x2x16 v s3 sliceFits_S2048x2x16_S1x2x16) shapeCasts_S1x2x16_S2x16 (ix2 b h) = v (ix3 k b h) := by
  rw [WordCmp.dynamicSlice_eq_extract (s := S2048x2x16) S1x2x16 v s3 sliceFits_S2048x2x16_S1x2x16 ![k.val, 0, 0] ⟨rfl, by intro a; fin_cases a <;> simp <;> omega⟩ h3]
  pointwise
include h3 in
theorem row64 (v : FVec Ideal S2048x2x64 .f32) (b : Fin 2) (n : Fin 64) :
    shapeCast S2x64 (Host.dynamicSlice S1x2x64 v s3 sliceFits_S2048x2x64_S1x2x64) shapeCasts_S1x2x64_S2x64 (ix2 b n) = v (ix3 k b n) := by
  rw [WordCmp.dynamicSlice_eq_extract (s := S2048x2x64) S1x2x64 v s3 sliceFits_S2048x2x64_S1x2x64 ![k.val, 0, 0] ⟨rfl, by intro a; fin_cases a <;> simp <;> omega⟩ h3]
  pointwise
include h4 in
theorem row128 (v : FVec Ideal S2048x2x16x128 .f32) (b : Fin 2) (h : Fin 16) (p : Fin 128) :
    shapeCast S2x16x128 (Host.dynamicSlice S1x2x16x128 v s4 sliceFits_S2048x2x16x128_S1x2x16x128) shapeCasts_S1x2x16x128_S2x16x128 (ix3 b h p) = v (ix4 k b h p) := by
  rw [WordCmp.dynamicSlice_eq_extract (s := S2048x2x16x128) S1x2x16x128 v s4 sliceFits_S2048x2x16x128_S1x2x16x128 ![k.val, 0, 0, 0] ⟨rfl, by intro a; fin_cases a <;> simp <;> omega⟩ h4]
  pointwise
include h4 in
theorem rowPut (v : FVec Ideal S2048x2x16x128 .f32) (u : FVec Ideal S1x2x16x128 .f32) (t : Fin 2048) (b : Fin 2) (h : Fin 16) (p : Fin 128) :
    Host.dynamicUpdateSlice v u s4 updateFits_S2048x2x16x128_S1x2x16x128 (ix4 t b h p) = if t = k then u (ix4 0 b h p) else v (ix4 t b h p) := by
  rw [WordCmp.dynamicUpdateSlice_eq_update (s := S2048x2x16x128) v u s4 updateFits_S2048x2x16x128_S1x2x16x128 ![k.val, 0, 0, 0] ⟨rfl, by intro a; fin_cases a <;> simp <;> omega⟩ h4]
  pointwise
  by_cases e : t = k
  · subst e
    rw [dif_pos ⟨le_refl _, Nat.lt_succ_self _⟩, if_pos rfl]
    exact congrArg (fun q => u (ix4 q b h p)) (Subsingleton.elim _ _)
  · rw [dif_neg (fun hk => e (Fin.ext (by omega))), if_neg e]
end

/-- The program's index of a row, from the counter. -/
theorem start_of {k : Fin 2048} {i : IVec S_ 32} (hi : i = fun _ => BitVec.ofNat 32 k.val) (j : S_.Idx) : (i j).toInt = (k.val : ℤ) := by
  rw [hi]
  exact toInt_ofNat_of_lt (by have := k.isLt; omega)

/-- One position carries the scan on. -/
theorem scan_step {A : Args} {V : Valuation τ sig (Elt Ideal)} (k : Fin 2048) (hV : Scan A k.val V) : Scan A (k.val + 1) (STEP V) := by
  have hs := start_of hV.ctr (Shape.Idx.first h_S_)
  have h3 : ∀ a : Fin 3, (((![V (Proc.devRef .tc main_v54_6), constantI S_ 32 0#32, constantI S_ 32 0#32] : Fin 3 → IVec S_ 32) a) (Shape.Idx.first h_S_)).toInt
      = ((![k.val, 0, 0] : Fin 3 → ℕ) a : ℤ) := by
    intro a; fin_cases a
    · exact hs
    · rfl
    · rfl
  have h4 : ∀ a : Fin 4, (((![V (Proc.devRef .tc main_v54_6), constantI S_ 32 0#32, constantI S_ 32 0#32, constantI S_ 32 0#32] : Fin 4 → IVec S_ 32) a) (Shape.Idx.first h_S_)).toInt
      = ((![k.val, 0, 0, 0] : Fin 4 → ℕ) a : ℤ) := by
    intro a; fin_cases a
    · exact hs
    · rfl
    · rfl
    · rfl
  have hx : ∀ b h p, (res_main_while0b_v76 V : FVec Ideal S2x16x128 .f32) (ix3 b h p) = A.x b k.val h p := fun b h p =>
    (row128 k _ h4 _ b h p).trans (hV.x k b h p)
  have hdt : ∀ b h, (res_main_while0b_v75 V : FVec Ideal S2x16 .f32) (ix2 b h) = A.dt b k.val h := fun b h =>
    (row16 k _ h3 _ b h).trans (hV.dt k b h)
  have hst : ∀ b h p n, (res_main_while0b_v94 V : FVec Ideal S2x16x128x64 .f32) (ix4 b h p n) = A.st b h n p (k.val + 1) := fun b h p n => by
    refine (stateT_apply _ _ _ _ _ b h p n).trans ?_
    rw [hV.st, hdt, hV.rate, hx]
    exact congrArg (_ + _ * ·) ((row64 k _ h3 _ b n).trans (hV.bm k b n))
  constructor
  · intro t b h; rw [STEP_main_v54_0]; exact hV.dt t b h
  · intro t b h p; rw [STEP_main_v54_1]; exact hV.x t b h p
  · intro t b n; rw [STEP_main_v54_2]; exact hV.bm t b n
  · intro t b n; rw [STEP_main_v54_3]; exact hV.cm t b n
  · intro h; rw [STEP_main_v54_4]; exact hV.rate h
  · intro h; rw [STEP_main_v54_5]; exact hV.skip h
  · rw [STEP_main_v54_6]
    show addi (V (Proc.devRef .tc main_v54_6)) (constantI S_ 32 1#32) = _
    rw [hV.ctr]
    exact funext fun _ => (BitVec.ofNat_add k.val 1).symm
  · intro b h p n; rw [STEP_main_v54_7]; exact hst b h p n
  · intro t b h p ht
    rw [STEP_main_v54_8]
    refine (rowPut k _ h4 _ _ t b h p).trans ?_
    by_cases e : t = k
    · rw [if_pos e, e]
      refine (rowT_apply _ _ _ _ 0 b h p).trans ?_
      rw [hV.skip, hx]
      refine congrArg (· + _) (Finset.sum_congr rfl fun n _ => ?_)
      rw [hst]
      exact congrArg (_ * ·) ((row64 k _ h3 _ b n).trans (hV.cm k b n))
    · rw [if_neg e]
      exact hV.ys t b h p (by have : t.val ≠ k.val := fun h => e (Fin.ext h); omega)

theorem scan_at : ∀ k, k ≤ 2048 → Scan (args m c) k (STEP^[k] (entryContents preI m c))
  | 0, _ => scan_start m c
  | k + 1, hk => by
    rw [Function.iterate_succ_apply']
    exact scan_step ⟨k, by omega⟩ (scan_at k (by omega))

/-! ## What is made of the scan -/

/-- The gated rows, as the program spells them. -/
def gatedT (ys : FVec Ideal S2048x2x16x128 .f32) (a0 : FVec Ideal S2x2048x1024 .f32) (a1 : FVec Ideal S4240x1024 .f32) : FVec Ideal S2x2048x2048 .f32 :=
  mulf (shapeCast _ (transpose S2x2048x16x128 [1, 0, 2, 3] ys transposes_S2048x2x16x128_S2x2048x16x128_1_0_2_3) shapeCasts_S2x2048x16x128_S2x2048x2048) (mulf (Host.dotGeneral dot_S2x2048x1024_S2048x1024_S2x2048x2048_2_1_01_0_n_n none a0 (extractStridedSlice S2048x1024 ![0, 0] a1 slices_S4240x1024_S2048x1024_0_0)) (Host.divf (broadcastInDim S2x2048x2048 ![] bcast_S_S2x2048x2048 (constant S_ .f32 0x3F800000#32)) (addf (broadcastInDim S2x2048x2048 ![] bcast_S_S2x2048x2048 (constant S_ .f32 0x3F800000#32)) (Host.exp (Host.negf (Host.dotGeneral dot_S2x2048x1024_S2048x1024_S2x2048x2048_2_1_01_0_n_n none a0 (extractStridedSlice S2048x1024 ![0, 0] a1 slices_S4240x1024_S2048x1024_0_0)))))))
/-- The rows scaled by their norm and the norm's weights, as the program spells them. -/
def normT (g : FVec Ideal S2x2048x2048 .f32) (a7 : FVec Ideal S2048 .f32) : FVec Ideal S2x2048x2048 .f32 :=
  mulf (mulf g (broadcastInDim S2x2048x2048 ![0, 1, 2] bcast_S2x2048x1_S2x2048x2048_0_1_2 (Host.rsqrt (addf (Host.divf (broadcastInDim S2x2048x1 ![0, 1] bcast_S2x2048_S2x2048x1_0_1 (Host.reduceAdd (mulf g g) (constant S_ .f32 0x00000000#32) reducesTo_S2x2048x2048_S2x2048_d2 h_S_)) (broadcastInDim S2x2048x1 ![] bcast_S_S2x2048x1 (constant S_ .f32 0x45000000#32))) (broadcastInDim S2x2048x1 ![] bcast_S_S2x2048x1 (constant S_ .f32 0x3727C5AC#32)))))) (broadcastInDim S2x2048x2048 ![0, 1, 2] bcast_S1x1x2048_S2x2048x2048_0_1_2 (broadcastInDim S1x1x2048 ![2] bcast_S2048_S1x1x2048_2 a7))

/-- The output projection, as the program spells it. -/
def projT (v : FVec Ideal S2x2048x2048 .f32) (a8 : FVec Ideal S1024x2048 .f32) : FVec Ideal S2x2048x1024 .f32 :=
  Host.dotGeneral dot_S2x2048x2048_S1024x2048_S2x2048x1024_2_1_01_0_n_n none v a8

theorem out_eq (V : Valuation τ sig (Elt Ideal)) : out_main_v74 V
    = projT (normT (gatedT (V (Proc.devRef .tc main_v54_8)) (V (Proc.devRef .tc main_arg0)) (V (Proc.devRef .tc main_arg1))) (V (Proc.devRef .tc main_arg7)))
        (V (Proc.devRef .tc main_arg8)) := rfl

theorem gatedT_apply (ys : FVec Ideal S2048x2x16x128 .f32) (a0 : FVec Ideal S2x2048x1024 .f32) (a1 : FVec Ideal S4240x1024 .f32)
    (b : Fin 2) (t : Fin 2048) (e : Fin 2048) :
    gatedT ys a0 a1 (ix3 b t e) = ys (ix4 t b ⟨e.val / 128, by omega⟩ ⟨e.val % 128, by omega⟩)
      * silu (∑ d, a0 (ix3 b t d) * a1 (ix2 ⟨e.val, by omega⟩ d)) := by
  pointwise [gatedT]
  rfl
theorem normT_apply (g : FVec Ideal S2x2048x2048 .f32) (a7 : FVec Ideal S2048 .f32) (b : Fin 2) (t : Fin 2048) (e : Fin 2048) :
    normT g a7 (ix3 b t e) = g (ix3 b t e) * Ideal.rsqrt (Ideal.div (∑ k, g (ix3 b t k) * g (ix3 b t k)) (Ideal.ofBits FTy.f32 0x45000000#32)
          + Ideal.ofBits FTy.f32 0x3727C5AC#32) * a7 (ix1 e) := by
  pointwise [normT]
theorem projT_apply (v : FVec Ideal S2x2048x2048 .f32) (a8 : FVec Ideal S1024x2048 .f32) (b : Fin 2) (t : Fin 2048) (o : Fin 1024) :
    projT v a8 (ix3 b t o) = ∑ e, v (ix3 b t e) * a8 (ix2 o e) := by
  pointwise [projT]

/-- The gated rows are the layer's. -/
theorem gated_value (b : Fin 2) (t : Fin 2048) (e : Fin 2048) {ys : FVec Ideal S2048x2x16x128 .f32}
    (hy : ∀ (h : Fin 16) (p : Fin 128), ys (ix4 t b h p) = (args m c).y b t.val h p + (args m c).dd h * (args m c).x b t.val h p) :
    gatedT ys (m ((c : Thread nD τ).loc main_arg0)) (m ((c : Thread nD τ).loc main_arg1)) (ix3 b t e) = (args m c).gated b t.val e := by
  rw [gatedT_apply, hy]
  refine congrArg₂ (fun v w => ((args m c).y b t.val ⟨e.val / 128, by omega⟩ ⟨e.val % 128, by omega⟩ + v) * silu w) ?_ (z_argsOf _ _ _ _ _ _ _ _ _ b t e).symm
  refine (mul_comm _ _).trans (congrArg (· * _) ?_)
  exact congrArg ((args m c).conv b t.val) (Fin.ext (by show 128 * (e.val / 128) + e.val % 128 = e.val; omega))

/-- The norm and the projection of the layer's gated rows. -/
theorem out_of (A : Args) (g : FVec Ideal S2x2048x2048 .f32) (a7 : FVec Ideal S2048 .f32) (a8 : FVec Ideal S1024x2048 .f32) (b : Fin 2) (t : Fin 2048)
    (o : Fin 1024) (hg : ∀ e, g (ix3 b t e) = A.gated b t.val e) (h7 : ∀ e, a7 (ix1 e) = A.nw e) (h8 : ∀ e, a8 (ix2 o e) = A.wo o e) :
    projT (normT g a7) a8 (ix3 b t o) = A.out b t.val o := by
  rw [projT_apply]
  refine Finset.sum_congr rfl fun e _ => ?_
  rw [normT_apply, h7, h8]
  simp only [hg]

/-- What is made of the scan's rows is the layer's result. -/
theorem out_value : out_main_v74 (STEP^[2048] (entryContents preI m c)) = (args m c).result := by
  have hS := scan_at m c 2048 (le_refl _)
  rw [out_eq, iter_main_arg0, iter_main_arg1, iter_main_arg7, iter_main_arg8]
  refine funext fun y => ?_
  idx_vars y
  have hg := fun e => gated_value m c y0 y1 e (fun h p => hS.ys y1 y0 h p y1.isLt)
  exact out_of (args m c) _ _ _ y0 y1 y2 hg (fun _ => rfl) (fun _ => rfl)

/-- The reference's run over the extended reals: the layer's result, the arguments unchanged. -/
theorem run_value : θ_run (defs (F := Ideal)) (onTc (τ := τ) (main (F := Ideal))) ⟨m, fun _ => 0, ρ⟩ (fun r => ∀ c : Dev nD,
      r.2.mem ((c.tc : Thread nD τ).loc main_v74) = (args m c).result
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (out_value m c), (h c).2⟩) (Value.run m ρ)

end Cert.ReferenceIdeal.Layer

end
-- ==== Proof.Finite.lean ====
/- What the precondition says of the arguments: every entry of the six arrays it names is a real number. -/
module

public import proofs.«01_k».proof.Pre_finite
public import proofs.«01_k».proof.Proof.Layer
public import Idealize.ShloMosaic.Lib.ReduceAll

@[expose] public section

noncomputable section

namespace Cert.Pre_finite

open Idealize.ShloMosaic
open Cert.Layer (IsReal)

/-- The side conditions of the precondition's operations. -/
theorem sideConditions : Facts where
  bcast_S_S2x2048x1024 := by decide
  reducesTo_S2x2048x1024_S_d0_1_2 := by decide
  h_S_ := by decide
  bcast_S_S4240x1024 := by decide
  reducesTo_S4240x1024_S_d0_1 := by decide
  bcast_S_S2176x1x4 := by decide
  reducesTo_S2176x1x4_S_d0_1_2 := by decide
  bcast_S_S2176 := by decide
  reducesTo_S2176_S_d0 := by decide
  bcast_S_S16 := by decide
  reducesTo_S16_S_d0 := by decide

instance : Subsingleton S_.Idx := ⟨fun _ _ => funext fun a => a.elim0⟩

/-- A value whose absolute value is below infinity is a real number. -/
theorem isReal_of_abs_lt {v : EReal} (h : max v (-v) < Ideal.ofBits .f32 0x7F800000#32) : IsReal v := by
  have ht : Ideal.ofBits .f32 0x7F800000#32 = ⊤ := by simp [Ideal.ofBits, Ideal.ieee]
  rw [ht, max_lt_iff] at h
  induction v with
  | bot => exact absurd h.2 (by simp)
  | coe r => exact ⟨r, rfl⟩
  | top => exact absurd h.1 (lt_irrefl _)

/-- An array of which the comparison with infinity holds throughout has real entries. -/
theorem all_real {s : Shape} {axes : List (Fin s.rank)} (x : FVec Ideal s .f32) (hb : S_.BroadcastsInDim s (![] : Fin 0 → Fin s.rank))
    (hr : s.ReducesTo axes S_) (h0 : 0 < S_.numel) (w : IVec S_ 1) (j : S_.Idx)
    (e : Host.reduce IntOp.andi (cmpf .olt (Host.absf x) (broadcastInDim s ![] hb (constant S_ .f32 0x7F800000#32))) w hr h0 j = 1#1) (i : s.Idx) :
    IsReal (x i) := by
  have h := Host.reduce_andi_all _ _ _ _ j e i
  refine isReal_of_abs_lt ?_
  by_contra hn
  change Ideal.cmp .olt (max (x i) (-(x i))) (Ideal.ofBits .f32 0x7F800000#32) = 1#1 at h
  simp [Ideal.cmp, hn] at h

/-- The precondition, read back. -/
theorem real_of_fn [Facts] {a0 : FVec Ideal S2x2048x1024 .f32} {a1 : FVec Ideal S4240x1024 .f32} {a2 : FVec Ideal S2176x1x4 .f32}
    {a3 : FVec Ideal S2176 .f32} {a4 a5 a6 : FVec Ideal S16 .f32} {a7 : FVec Ideal S2048 .f32} {a8 : FVec Ideal S1024x2048 .f32}
    (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) := by
  have e := congrFun h (Shape.Idx.first Facts.h_S_)
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real a0 _ _ _ _ _ h0, all_real a1 _ _ _ _ _ h1, all_real a2 _ _ _ _ _ h2, all_real a3 _ _ _ _ _ h3,
    all_real a4 _ _ _ _ _ h4, all_real a5 _ _ _ _ _ h5⟩

end Cert.Pre_finite

end
-- ==== Proof.lean ====
/- The certificate's claim: the three programs run and leave their arguments and counters as they were, the idealized
   kernel is the kernel with its mask constant named, and over the extended reals the idealized kernel and the reference
   end with the same array from the same arguments, where the arguments that the scan is made from are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.IdealFrame
public import proofs.«01_k».proof.Proof.ReferenceFrame
public import proofs.«01_k».proof.Proof.IdealResult
public import proofs.«01_k».proof.Proof.ReferenceValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Launched on the same arguments, the kernel and the reference end with the layer's result of them. -/
theorem algebraic [hPre : Cert.Pre_finite.Facts] : Cert.algebraic_KernelIdeal_ReferenceIdeal_pre_finite
    (hKernelIdeal := Cert.KernelIdeal.Gen.facts) (hReferenceIdeal := Cert.ReferenceIdeal.Gen.facts) (hPre_finite := hPre) := by
  intro m g m' g' hm hargs
  have hA : ∀ c, (Cert.KernelIdeal.Layer.args m c).Finite := fun c => by
    obtain ⟨h0, h1, h2, h3, h4, h5⟩ := Cert.Pre_finite.real_of_fn (hm c)
    exact Cert.Layer.argsOf_finite _ _ _ h0 h1 h2 h3 h4 h5
  have he : ∀ c, Cert.ReferenceIdeal.Layer.args m' c = Cert.KernelIdeal.Layer.args m c := fun c => by
    obtain ⟨h0, h1, h2, h3, h4, h5, h6, h7, h8⟩ := hargs c
    unfold Cert.ReferenceIdeal.Layer.args Cert.KernelIdeal.Layer.args
    rw [h0, h1, h2, h3, h4, h5, h6, h7, h8]
  refine ⟨fun c => (Cert.KernelIdeal.Layer.args m c).result, Cert.KernelIdeal.Layer.run_value m g hA, ?_⟩
  exact (θ_run Cert.ReferenceIdeal.defs _ _).mono (fun _ h c => ⟨(h c).1.trans (congrArg Cert.Layer.Args.result (he c)), (h c).2⟩)
    (Cert.ReferenceIdeal.Layer.run_value m' g')

theorem claim : Cert.Claim := ⟨Cert.Kernel.Gen.facts, Cert.KernelIdeal.Gen.facts, Cert.ReferenceIdeal.Gen.facts, Cert.Pre_finite.sideConditions,
  fun m g _ => Cert.Kernel.Layer.frame m g,
  fun m g _ => Cert.KernelIdeal.Layer.frame m g,
  fun m g _ => Cert.KernelIdeal.Layer.frame m g,
  fun m g _ => Cert.ReferenceIdeal.Layer.frame m g,
  fun m g _ => Cert.ReferenceIdeal.Layer.frame m g,
  IdealRules.named_const.statement Cert.KernelIdeal.κ "mask" .f32 0xF149F2CA#32 ⊥ rfl,
  algebraic (hPre := Cert.Pre_finite.sideConditions)⟩

end Cert.Proof

end
